-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_in_22_bits [hPre_exact_in_22_bits : Cert.Pre_exact_in_22_bits.Facts] (m : (ℓ : Loc Cert.KernelIdeal.nD Cert.KernelIdeal.τ Cert.KernelIdeal.sig) → Buf (Elt Ideal) ℓ) : Prop :=
  ∀ c : Dev Cert.KernelIdeal.nD,
    (Cert.Pre_exact_in_22_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_in_22_bits [hPre_exact_in_22_bits : Cert.Pre_exact_in_22_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_in_22_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_exact_in_22_bits [hKernelIdeal : Cert.KernelIdeal.Facts] [hPre_exact_in_22_bits : Cert.Pre_exact_in_22_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_in_22_bits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exact_in_22_bits [hReferenceIdeal : Cert.ReferenceIdeal.Facts] [hPre_exact_in_22_bits : Cert.Pre_exact_in_22_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_in_22_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_exact_in_22_bits [hKernelIdeal : Cert.KernelIdeal.Facts] [hReferenceIdeal : Cert.ReferenceIdeal.Facts] [hPre_exact_in_22_bits : Cert.Pre_exact_in_22_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_in_22_bits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_exact_in_22_bits : Cert.Pre_exact_in_22_bits.Facts),
    quiescent_Kernel (hKernel := hKernel)
    ∧ quiescent_KernelIdeal (hKernelIdeal := hKernelIdeal)
    ∧ quiescent_KernelIdeal_pre_exact_in_22_bits (hKernelIdeal := hKernelIdeal) (hPre_exact_in_22_bits := hPre_exact_in_22_bits)
    ∧ quiescent_ReferenceIdeal (hReferenceIdeal := hReferenceIdeal)
    ∧ quiescent_ReferenceIdeal_pre_exact_in_22_bits (hReferenceIdeal := hReferenceIdeal) (hPre_exact_in_22_bits := hPre_exact_in_22_bits)
    ∧ preserves_Kernel_KernelIdeal
    ∧ algebraic_KernelIdeal_ReferenceIdeal_pre_exact_in_22_bits (hKernelIdeal := hKernelIdeal) (hReferenceIdeal := hReferenceIdeal) (hPre_exact_in_22_bits := hPre_exact_in_22_bits)
-- ==== Pre_exact_in_22_bits.lean ====
abbrev S4x384x29568 : Shape := ⟨3, ![4, 384, 29568]⟩
abbrev S2 : Shape := ⟨1, ![2]⟩
abbrev S4x384x924x32 : Shape := ⟨4, ![4, 384, 924, 32]⟩
abbrev S_ : Shape := ⟨0, ![]⟩
abbrev S4x384x924 : Shape := ⟨3, ![4, 384, 924]⟩
abbrev S254 : Shape := ⟨1, ![254]⟩
abbrev S4x384x924x1 : Shape := ⟨4, ![4, 384, 924, 1]⟩
abbrev S1x1x1x254 : Shape := ⟨4, ![1, 1, 1, 254]⟩
abbrev S4x384x924x254 : Shape := ⟨4, ![4, 384, 924, 254]⟩

class Facts : Prop where
  bitsLt_bf16_f32 : FTy.bits .bf16 < FTy.bits .f32
  shapeCasts_S4x384x29568_S4x384x924x32 : S4x384x29568.ShapeCasts S4x384x924x32
  reducesTo_S4x384x924x32_S4x384x924_d3 : S4x384x924x32.ReducesTo [3] S4x384x924
  h_S_ : 0 < S_.numel
  bcast_S_S4x384x924 : S_.BroadcastsInDim S4x384x924 (![] : Fin 0 → Fin S4x384x924.rank)
  bcast_S_S254 : S_.BroadcastsInDim S254 (![] : Fin 0 → Fin S254.rank)
  bcast_S4x384x924_S4x384x924x1_0_1_2 : S4x384x924.BroadcastsInDim S4x384x924x1 (![0, 1, 2] : Fin 3 → Fin S4x384x924x1.rank)
  bcast_S254_S1x1x1x254_3 : S254.BroadcastsInDim S1x1x1x254 (![3] : Fin 1 → Fin S1x1x1x254.rank)
  bcast_S1x1x1x254_S4x384x924x254_0_1_2_3 : S1x1x1x254.BroadcastsInDim S4x384x924x254 (![0, 1, 2, 3] : Fin 4 → Fin S4x384x924x254.rank)
  bcast_S4x384x924x1_S4x384x924x254_0_1_2_3 : S4x384x924x1.BroadcastsInDim S4x384x924x254 (![0, 1, 2, 3] : Fin 4 → Fin S4x384x924x254.rank)
  bcast_S254_S4x384x924x254_3 : S254.BroadcastsInDim S4x384x924x254 (![3] : Fin 1 → Fin S4x384x924x254.rank)
  bcast_S_S4x384x924x254 : S_.BroadcastsInDim S4x384x924x254 (![] : Fin 0 → Fin S4x384x924x254.rank)
  reducesTo_S4x384x924x254_S4x384x924_d3 : S4x384x924x254.ReducesTo [3] S4x384x924
  bcast_S_S4x384x924x32 : S_.BroadcastsInDim S4x384x924x32 (![] : Fin 0 → Fin S4x384x924x32.rank)
  bcast_S4x384x924x1_S4x384x924x32_0_1_2_3 : S4x384x924x1.BroadcastsInDim S4x384x924x32 (![0, 1, 2, 3] : Fin 4 → Fin S4x384x924x32.rank)

variable [Facts]

def fn_where {F : FTy → Type} [FloatOps F] (arg0 : IVec S4x384x924x254 1) (arg1 : IVec S254 32) (arg2 : IVec S_ 32) : IVec S4x384x924x254 32 :=
  let v0 : IVec S4x384x924x254 32 := broadcastInDim S4x384x924x254 ![3] bcast_S254_S4x384x924x254_3 arg1
  let v1 : IVec S4x384x924x254 32 := broadcastInDim S4x384x924x254 ![] bcast_S_S4x384x924x254 arg2
  let v2 : IVec S4x384x924x254 32 := select arg0 v0 v1
  v2

def fn_where_0 {F : FTy → Type} [FloatOps F] (arg0 : IVec S4x384x924 1) (arg1 : IVec S_ 32) (arg2 : IVec S4x384x924 32) : IVec S4x384x924 32 :=
  let v0 : IVec S4x384x924 32 := broadcastInDim S4x384x924 ![] bcast_S_S4x384x924 arg1
  let v1 : IVec S4x384x924 32 := select arg0 v0 arg2
  v1

def fn_where_1 {F : FTy → Type} [FloatOps F] (arg0 : IVec S4x384x924x32 1) (arg1 : FVec F S4x384x924x32 .f32) (arg2 : FVec F S_ .f32) : FVec F S4x384x924x32 .f32 :=
  let v0 : FVec F S_ .f32 := id arg2
  let v1 : FVec F S4x384x924x32 .f32 := broadcastInDim S4x384x924x32 ![] bcast_S_S4x384x924x32 v0
  let v2 : FVec F S4x384x924x32 .f32 := select arg0 arg1 v1
  v2

def fn_where_2 {F : FTy → Type} [FloatOps F] (arg0 : IVec S4x384x924x32 1) (arg1 : FVec F S4x384x924x32 .f32) (arg2 : FVec F S4x384x924x32 .f32) : FVec F S4x384x924x32 .f32 :=
  let v0 : FVec F S4x384x924x32 .f32 := select arg0 arg1 arg2
  v0

def fn_part4 {F : FTy → Type} [FloatOps F] (main_v61 : FVec F S4x384x924x32 .f32) (main_v70 : IVec S4x384x924x1 1) : IVec S4x384x924x32 1 :=
  let main_v71 : FVec F S4x384x924x32 .f32 := Host.floor main_v61
  let main_v72 : IVec S4x384x924x32 1 := cmpf .oeq main_v71 main_v61
  let main_v73 : IVec S4x384x924x32 1 := broadcastInDim S4x384x924x32 ![0, 1, 2, 3] bcast_S4x384x924x1_S4x384x924x32_0_1_2_3 main_v70
  let main_v74 : IVec S4x384x924x32 1 := andi main_v73 main_v72
  main_v74

def fn_part3 {F : FTy → Type} [FloatOps F] (main_v3 : FVec F S4x384x924 .f32) (main_v33 : FVec F S4x384x924x32 .f32) (main_v39 : FVec F S4x384x924x32 .f32) (main_v41 : IVec S4x384x924x32 1) (main_v43 : IVec S4x384x924x32 1) (main_v50 : FVec F S4x384x924x32 .f32) (main_v52 : FVec F S4x384x924x32 .f32) : IVec S4x384x924x32 1 :=
  let main_v53 : FVec F S4x384x924x32 .f32 := subf main_v52 main_v39
  let main_cst_17 : FVec F S_ .f32 := constant S_ .f32 0x40800000#32
  let main_v54 : FVec F S4x384x924x32 .f32 := broadcastInDim S4x384x924x32 ![] bcast_S_S4x384x924x32 main_cst_17
  let main_v55 : FVec F S4x384x924x32 .f32 := subf main_v33 main_v54
  let main_cst_18 : FVec F S_ .f32 := constant S_ .f32 0x3F000000#32
  let main_v56 : FVec F S4x384x924x32 .f32 := broadcastInDim S4x384x924x32 ![] bcast_S_S4x384x924x32 main_cst_18
  let main_v57 : FVec F S4x384x924x32 .f32 := mulf main_v55 main_v56
  let main_v58 : FVec F S4x384x924x32 .f32 := fn_where_2 (F := F) main_v43 main_v53 main_v57
  let main_v59 : FVec F S4x384x924x32 .f32 := fn_where_2 (F := F) main_v41 main_v50 main_v58
  let main_cst_19 : FVec F S_ .f32 := constant S_ .f32 0x4A800000#32
  let main_v60 : FVec F S4x384x924x32 .f32 := broadcastInDim S4x384x924x32 ![] bcast_S_S4x384x924x32 main_cst_19
  let main_v61 : FVec F S4x384x924x32 .f32 := mulf main_v59 main_v60
  let main_cst_20 : FVec F S_ .f32 := constant S_ .f32 0x7F7FFFFF#32
  let main_v62 : FVec F S4x384x924 .f32 := broadcastInDim S4x384x924 ![] bcast_S_S4x384x924 main_cst_20
  let main_v63 : IVec S4x384x924 1 := cmpf .ole main_v3 main_v62
  let main_cst_21 : FVec F S_ .f32 := constant S_ .f32 0x00000000#32
  let main_v64 : FVec F S4x384x924 .f32 := broadcastInDim S4x384x924 ![] bcast_S_S4x384x924 main_cst_21
  let main_v65 : IVec S4x384x924 1 := cmpf .oeq main_v3 main_v64
  let main_cst_22 : FVec F S_ .f32 := constant S_ .f32 0x01800000#32
  let main_v66 : FVec F S4x384x924 .f32 := broadcastInDim S4x384x924 ![] bcast_S_S4x384x924 main_cst_22
  let main_v67 : IVec S4x384x924 1 := cmpf .oge main_v3 main_v66
  let main_v68 : IVec S4x384x924 1 := andi main_v67 main_v63
  let main_v69 : IVec S4x384x924 1 := ori main_v65 main_v68
  let main_v70 : IVec S4x384x924x1 1 := broadcastInDim S4x384x924x1 ![0, 1, 2] bcast_S4x384x924_S4x384x924x1_0_1_2 main_v69
  fn_part4 (F := F) main_v61 main_v70

def fn_part2 {F : FTy → Type} [FloatOps F] (main_v3 : FVec F S4x384x924 .f32) (main_v33 : FVec F S4x384x924x32 .f32) (main_v35 : FVec F S4x384x924x32 .f32) : IVec S4x384x924x32 1 :=
  let main_v36 : FVec F S4x384x924x32 .f32 := Host.floor main_v35
  let main_cst_10 : FVec F S_ .f32 := constant S_ .f32 0x40000000#32
  let main_v37 : FVec F S4x384x924x32 .f32 := broadcastInDim S4x384x924x32 ![] bcast_S_S4x384x924x32 main_cst_10
  let main_v38 : FVec F S4x384x924x32 .f32 := subf main_v33 main_v37
  let main_v39 : FVec F S4x384x924x32 .f32 := Host.floor main_v38
  let main_cst_11 : FVec F S_ .f32 := constant S_ .f32 0x40000000#32
  let main_v40 : FVec F S4x384x924x32 .f32 := broadcastInDim S4x384x924x32 ![] bcast_S_S4x384x924x32 main_cst_11
  let main_v41 : IVec S4x384x924x32 1 := cmpf .olt main_v33 main_v40
  let main_cst_12 : FVec F S_ .f32 := constant S_ .f32 0x40800000#32
  let main_v42 : FVec F S4x384x924x32 .f32 := broadcastInDim S4x384x924x32 ![] bcast_S_S4x384x924x32 main_cst_12
  let main_v43 : IVec S4x384x924x32 1 := cmpf .olt main_v33 main_v42
  let main_cst_13 : FVec F S_ .f32 := constant S_ .f32 0x40800000#32
  let main_v44 : FVec F S4x384x924x32 .f32 := broadcastInDim S4x384x924x32 ![] bcast_S_S4x384x924x32 main_cst_13
  let main_v45 : FVec F S4x384x924x32 .f32 := addf main_v44 main_v39
  let main_cst_14 : FVec F S_ .f32 := constant S_ .f32 0x40C00000#32
  let main_v46 : FVec F S4x384x924x32 .f32 := fn_where_1 (F := F) main_v43 main_v45 main_cst_14
  let main_v47 : FVec F S4x384x924x32 .f32 := fn_where_2 (F := F) main_v41 main_v36 main_v46
  let main_cst_15 : FVec F S_ .f32 := constant S_ .f32 0x40000000#32
  let main_v48 : FVec F S4x384x924x32 .f32 := broadcastInDim S4x384x924x32 ![] bcast_S_S4x384x924x32 main_cst_15
  let main_v49 : FVec F S4x384x924x32 .f32 := mulf main_v48 main_v33
  let main_v50 : FVec F S4x384x924x32 .f32 := subf main_v49 main_v36
  let main_cst_16 : FVec F S_ .f32 := constant S_ .f32 0x40000000#32
  let main_v51 : FVec F S4x384x924x32 .f32 := broadcastInDim S4x384x924x32 ![] bcast_S_S4x384x924x32 main_cst_16
  let main_v52 : FVec F S4x384x924x32 .f32 := subf main_v33 main_v51
  fn_part3 (F := F) main_v3 main_v33 main_v39 main_v41 main_v43 main_v50 main_v52

def fn_part1 {F : FTy → Type} [FloatOps F] (main_v1 : FVec F S4x384x924x32 .f32) (main_v3 : FVec F S4x384x924 .f32) (main_v5 : IVec S4x384x924 1) (main_v17 : IVec S4x384x924x254 32) (main_c_3 : IVec S_ 32) : IVec S4x384x924x32 1 :=
  let main_v18 : IVec S4x384x924 32 := (fun x v => Host.reduce IntOp.maxsi x v reducesTo_S4x384x924x254_S4x384x924_d3 h_S_) main_v17 main_c_3
  let main_c_4 : IVec S_ 32 := constantI S_ 32 1#32
  let main_v19 : IVec S4x384x924 32 := broadcastInDim S4x384x924 ![] bcast_S_S4x384x924 main_c_4
  let main_v20 : IVec S4x384x924 32 := addi main_v18 main_v19
  let main_c_5 : IVec S_ 32 := constantI S_ 32 3#32
  let main_v21 : IVec S4x384x924 32 := broadcastInDim S4x384x924 ![] bcast_S_S4x384x924 main_c_5
  let main_v22 : IVec S4x384x924 32 := subi main_v20 main_v21
  let main_c_6 : IVec S_ 32 := constantI S_ 32 0#32
  let main_v23 : IVec S4x384x924 32 := fn_where_0 (F := F) main_v5 main_c_6 main_v22
  let main_v24 : FVec F S4x384x924x32 .f32 := Host.absf main_v1
  let main_cst_7 : FVec F S_ .f32 := constant S_ .f32 0x3F400000#32
  let main_v25 : FVec F S4x384x924x32 .f32 := broadcastInDim S4x384x924x32 ![] bcast_S_S4x384x924x32 main_cst_7
  let main_v26 : FVec F S4x384x924x32 .f32 := mulf main_v24 main_v25
  let main_v27 : IVec S4x384x924 32 := negi main_v23
  let main_v28 : FVec F S4x384x924 .f32 := sitofp .f32 main_v27
  let main_cst_8 : FVec F S_ .f32 := constant S_ .f32 0x40000000#32
  let main_v29 : FVec F S4x384x924 .f32 := broadcastInDim S4x384x924 ![] bcast_S_S4x384x924 main_cst_8
  let main_v30 : FVec F S4x384x924 .f32 := Host.powf main_v29 main_v28
  let main_v31 : FVec F S4x384x924x1 .f32 := broadcastInDim S4x384x924x1 ![0, 1, 2] bcast_S4x384x924_S4x384x924x1_0_1_2 main_v30
  let main_v32 : FVec F S4x384x924x32 .f32 := broadcastInDim S4x384x924x32 ![0, 1, 2, 3] bcast_S4x384x924x1_S4x384x924x32_0_1_2_3 main_v31
  let main_v33 : FVec F S4x384x924x32 .f32 := mulf main_v26 main_v32
  let main_cst_9 : FVec F S_ .f32 := constant S_ .f32 0x40000000#32
  let main_v34 : FVec F S4x384x924x32 .f32 := broadcastInDim S4x384x924x32 ![] bcast_S_S4x384x924x32 main_cst_9
  let main_v35 : FVec F S4x384x924x32 .f32 := mulf main_v34 main_v33
  fn_part2 (F := F) main_v3 main_v33 main_v35

def fn {F : FTy → Type} [FloatOps F] (main_arg0 : FVec F S4x384x29568 .bf16) (main_arg1 : IVec S2 32) : IVec S4x384x924x32 1 :=
  let main_v0 : FVec F S4x384x29568 .f32 := (extf .f32 · bitsLt_bf16_f32) main_arg0
  let main_v1 : FVec F S4x384x924x32 .f32 := shapeCast S4x384x924x32 main_v0 shapeCasts_S4x384x29568_S4x384x924x32
  let main_v2 : FVec F S4x384x924x32 .f32 := Host.absf main_v1
  let main_cst : FVec F S_ .f32 := constant S_ .f32 0xFF800000#32
  let main_v3 : FVec F S4x384x924 .f32 := (fun x v => Host.reduce FloatOps.maximumf x v reducesTo_S4x384x924x32_S4x384x924_d3 h_S_) main_v2 main_cst
  let main_cst_0 : FVec F S_ .f32 := constant S_ .f32 0x00000000#32
  let main_v4 : FVec F S4x384x924 .f32 := broadcastInDim S4x384x924 ![] bcast_S_S4x384x924 main_cst_0
  let main_v5 : IVec S4x384x924 1 := cmpf .oeq main_v3 main_v4
  let main_v6 : IVec S254 32 := iotaInDim S254 32 0
  let main_c : IVec S_ 32 := constantI S_ 32 4294967170#32
  let main_v7 : IVec S254 32 := broadcastInDim S254 ![] bcast_S_S254 main_c
  let main_v8 : IVec S254 32 := addi main_v7 main_v6
  let main_v9 : FVec F S254 .f32 := sitofp .f32 main_v8
  let main_cst_1 : FVec F S_ .f32 := constant S_ .f32 0x40000000#32
  let main_v10 : FVec F S254 .f32 := broadcastInDim S254 ![] bcast_S_S254 main_cst_1
  let main_v11 : FVec F S254 .f32 := Host.powf main_v10 main_v9
  let main_v12 : FVec F S4x384x924x1 .f32 := broadcastInDim S4x384x924x1 ![0, 1, 2] bcast_S4x384x924_S4x384x924x1_0_1_2 main_v3
  let main_v13 : FVec F S1x1x1x254 .f32 := broadcastInDim S1x1x1x254 ![3] bcast_S254_S1x1x1x254_3 main_v11
  let main_v14 : FVec F S4x384x924x254 .f32 := broadcastInDim S4x384x924x254 ![0, 1, 2, 3] bcast_S1x1x1x254_S4x384x924x254_0_1_2_3 main_v13
  let main_v15 : FVec F S4x384x924x254 .f32 := broadcastInDim S4x384x924x254 ![0, 1, 2, 3] bcast_S4x384x924x1_S4x384x924x254_0_1_2_3 main_v12
  let main_v16 : IVec S4x384x924x254 1 := cmpf .ole main_v14 main_v15
  let main_c_2 : IVec S_ 32 := constantI S_ 32 4294967169#32
  let main_v17 : IVec S4x384x924x254 32 := fn_where (F := F) main_v16 main_v8 main_c_2
  let main_c_3 : IVec S_ 32 := constantI S_ 32 2147483648#32
  fn_part1 (F := F) main_v1 main_v3 main_v5 main_v17 main_c_3
-- ==== Kernel.lean ====
abbrev S4x384x29568 : Shape := ⟨3, ![4, 384, 29568]⟩
abbrev S2 : Shape := ⟨1, ![2]⟩
abbrev S256x256 : Shape := ⟨2, ![256, 256]⟩
abbrev S_ : Shape := ⟨0, ![]⟩
abbrev S64x256 : Shape := ⟨2, ![64, 256]⟩
abbrev S1536x29568 : Shape := ⟨2, ![1536, 29568]⟩
abbrev S4x14784x384 : Shape := ⟨3, ![4, 14784, 384]⟩
abbrev S4x924x384 : Shape := ⟨3, ![4, 924, 384]⟩
abbrev S128x29568 : Shape := ⟨2, ![128, 29568]⟩
abbrev S1x14784x128 : Shape := ⟨3, ![1, 14784, 128]⟩
abbrev S1x924x128 : Shape := ⟨3, ![1, 924, 128]⟩
abbrev S256x128 : Shape := ⟨2, ![256, 128]⟩
abbrev S32x128 : Shape := ⟨2, ![32, 128]⟩
abbrev S1 : Shape := ⟨1, ![1]⟩
abbrev S8x128 : Shape := ⟨2, ![8, 128]⟩
abbrev S128x256 : Shape := ⟨2, ![128, 256]⟩
abbrev S64x128 : Shape := ⟨2, ![64, 128]⟩
abbrev S1x8x128 : Shape := ⟨3, ![1, 8, 128]⟩
abbrev S128x128 : Shape := ⟨2, ![128, 128]⟩
abbrev S1x128x128 : Shape := ⟨3, ![1, 128, 128]⟩
abbrev S4x384x14784 : Shape := ⟨3, ![4, 384, 14784]⟩
abbrev S4x384x924 : Shape := ⟨3, ![4, 384, 924]⟩

abbrev nBuf : Space → Nat
  | .hbm => 58
  | .vmem => 10
  | .smem => 1
  | _ => 0

abbrev bufTy : (tb : Table) → Fin (tcTables nBuf tb) → BufTy
  | .hbm, ⟨0, _⟩ => ⟨S4x384x29568, .bf16⟩
  | .hbm, ⟨1, _⟩ => ⟨S2, .i32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S_, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S64x256, .i32⟩
  | .hbm, ⟨21, _⟩ => ⟨S64x256, .i32⟩
  | .hbm, ⟨22, _⟩ => ⟨S_, .i32⟩
  | .hbm, ⟨23, _⟩ => ⟨S64x256, .i32⟩
  | .hbm, ⟨24, _⟩ => ⟨S64x256, .i32⟩
  | .hbm, ⟨25, _⟩ => ⟨S_, .i32⟩
  | .hbm, ⟨26, _⟩ => ⟨S64x256, .i32⟩
  | .hbm, ⟨27, _⟩ => ⟨S64x256, .i32⟩
  | .hbm, ⟨28, _⟩ => ⟨S_, .i32⟩
  | .hbm, ⟨29, _⟩ => ⟨S64x256, .i32⟩
  | .hbm, ⟨30, _⟩ => ⟨S64x256, .i32⟩
  | .hbm, ⟨31, _⟩ => ⟨S_, .i32⟩
  | .hbm, ⟨32, _⟩ => ⟨S64x256, .i32⟩
  | .hbm, ⟨33, _⟩ => ⟨S64x256, .i32⟩
  | .hbm, ⟨34, _⟩ => ⟨S64x256, .i32⟩
  | .hbm, ⟨35, _⟩ => ⟨S64x256, .i1⟩
  | .hbm, ⟨36, _⟩ => ⟨S_, .i32⟩
  | .hbm, ⟨37, _⟩ => ⟨S64x256, .i32⟩
  | .hbm, ⟨38, _⟩ => ⟨S64x256, .i32⟩
  | .hbm, ⟨39, _⟩ => ⟨S_, .i32⟩
  | .hbm, ⟨40, _⟩ => ⟨S64x256, .i32⟩
  | .hbm, ⟨41, _⟩ => ⟨S64x256, .i32⟩
  | .hbm, ⟨42, _⟩ => ⟨S_, .i32⟩
  | .hbm, ⟨43, _⟩ => ⟨S64x256, .i32⟩
  | .hbm, ⟨44, _⟩ => ⟨S64x256, .i32⟩
  | .hbm, ⟨45, _⟩ => ⟨S_, .i32⟩
  | .hbm, ⟨46, _⟩ => ⟨S_, .i32⟩
  | .hbm, ⟨47, _⟩ => ⟨S64x256, .i32⟩
  | .hbm, ⟨48, _⟩ => ⟨S64x256, .i32⟩
  | .hbm, ⟨49, _⟩ => ⟨S64x256, .f32⟩
  | .hbm, ⟨50, _⟩ => ⟨S1536x29568, .bf16⟩
  | .hbm, ⟨51, _⟩ => ⟨S256x256, .bf16⟩
  | .hbm, ⟨52, _⟩ => ⟨S64x256, .bf16⟩
  | .hbm, ⟨53, _⟩ => ⟨S4x14784x384, .i8⟩
  | .hbm, ⟨54, _⟩ => ⟨S4x924x384, .i32⟩
  | .hbm, ⟨55, _⟩ => ⟨S4x384x14784, .i8⟩
  | .hbm, ⟨56, _⟩ => ⟨S4x384x924, .i32⟩
  | .hbm, ⟨57, _⟩ => ⟨S4x384x924, .i8⟩
  | .local _ .vmem, ⟨0, _⟩ => ⟨S128x29568, .bf16⟩
  | .local _ .vmem, ⟨1, _⟩ => ⟨S128x29568, .bf16⟩
  | .local _ .vmem, ⟨2, _⟩ => ⟨S256x256, .bf16⟩
  | .local _ .vmem, ⟨3, _⟩ => ⟨S64x256, .bf16⟩
  | .local _ .vmem, ⟨4, _⟩ => ⟨S1x14784x128, .i8⟩
  | .local _ .vmem, ⟨5, _⟩ => ⟨S1x14784x128, .i8⟩
  | .local _ .vmem, ⟨6, _⟩ => ⟨S1x924x128, .i32⟩
  | .local _ .vmem, ⟨7, _⟩ => ⟨S1x924x128, .i32⟩
  | .local _ .vmem, ⟨8, _⟩ => ⟨S256x128, .f32⟩
  | .local _ .vmem, ⟨9, _⟩ => ⟨S32x128, .i32⟩
  | .local _ .smem, ⟨0, _⟩ => ⟨S2, .i32⟩
  | _, _ => ⟨S4x384x29568, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_c_8 : Ref sig .tc := ⟨.hbm, 39, rfl⟩
abbrev main_v25 : Ref sig .tc := ⟨.hbm, 40, rfl⟩
abbrev main_v26 : Ref sig .tc := ⟨.hbm, 41, rfl⟩
abbrev main_c_9 : Ref sig .tc := ⟨.hbm, 42, rfl⟩
abbrev main_v27 : Ref sig .tc := ⟨.hbm, 43, rfl⟩
abbrev main_v28 : Ref sig .tc := ⟨.hbm, 44, rfl⟩
abbrev main_c_10 : Ref sig .tc := ⟨.hbm, 45, rfl⟩
abbrev main_call1_v0 : Ref sig .tc := ⟨.hbm, 46, rfl⟩
abbrev main_call1_v1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c116_i32 : BitVec 32 := 116#32
  let v12 : BitVec 32 := Scalar.addi c0_i32 c116_i32
  let c1_i32 : BitVec 32 := 1#32
  ⟨c0_i32, v12, c1_i32⟩
def k0_mult1 (k0_t1 : Fin k0_t1_loop.trips) : BitVec 32 :=
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v13 : BitVec 32 := Scalar.muli arg9 c1_i32_1
  let v14 : BitVec 32 := Scalar.addi c0_i32_2 v13
  let c256_i32 : BitVec 32 := 256#32
  let v15 : BitVec 32 := Scalar.muli v14 c256_i32
  let c29312_i32 : BitVec 32 := 29312#32
  let v16 : BitVec 32 := Scalar.minsi v15 c29312_i32
  v16
def k0_off1 (k0_t1 : Fin k0_t1_loop.trips) : Fin 2 → Nat :=
  let c0_3 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v13 : BitVec 32 := Scalar.muli arg9 c1_i32_1
  let v14 : BitVec 32 := Scalar.addi c0_i32_2 v13
  let c256_i32 : BitVec 32 := 256#32
  let v15 : BitVec 32 := Scalar.muli v14 c256_i32
  let c29312_i32 : BitVec 32 := 29312#32
  let v16 : BitVec 32 := Scalar.minsi v15 c29312_i32
  let v17 : BitVec 32 := v16
  let v18 : Index := Scalar.indexCast v17
  ![0, v18.toNat]
def k0_off2 (k0_t1 : Fin k0_t1_loop.trips) : Fin 3 → Nat :=
  let c0_56 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v13 : BitVec 32 := Scalar.muli arg9 c1_i32_1
  let v14 : BitVec 32 := Scalar.addi c0_i32_2 v13
  let c256_i32 : BitVec 32 := 256#32
  let v15 : BitVec 32 := Scalar.muli v14 c256_i32
  let c29312_i32 : BitVec 32 := 29312#32
  let v16 : BitVec 32 := Scalar.minsi v15 c29312_i32
  let v17 : BitVec 32 := v16
  let c0_i32_50 : BitVec 32 := 0#32
  let v157 : BitVec 1 := Scalar.cmpi .sgt v17 c0_i32_50
  let v158 : BitVec 32 := Scalar.extui v157
  let c0_i32_51 : BitVec 32 := 0#32
  let v159 : BitVec 1 := Scalar.cmpi .slt v17 c0_i32_51
  let v160 : BitVec 32 := Scalar.extui v159
  let v161 : BitVec 32 := Scalar.subi v158 v160
  let c32_i32 : BitVec 32 := 32#32
  let c0_i32_52 : BitVec 32 := 0#32
  let v162 : BitVec 1 := Scalar.cmpi .sgt c32_i32 c0_i32_52
  let v163 : BitVec 32 := Scalar.extui v162
  let c0_i32_53 : BitVec 32 := 0#32
  let v164 : BitVec 1 := Scalar.cmpi .slt c32_i32 c0_i32_53
  let v165 : BitVec 32 := Scalar.extui v164
  let v166 : BitVec 32 := Scalar.subi v163 v165
  let v167 : BitVec 1 := Scalar.cmpi .ne v161 v166
  let v168 : BitVec 32 := Scalar.remsi v17 c32_i32
  let c0_i32_54 : BitVec 32 := 0#32
  let v169 : BitVec 1 := Scalar.cmpi .ne v168 c0_i32_54
  let v170 : BitVec 1 := Scalar.andi v167 v169
  let v156 : BitVec 32 := Scalar.divsi v17 c32_i32
  let c1_i32_55 : BitVec 32 := 1#32
  let v171 : BitVec 32 := Scalar.subi v156 c1_i32_55
  let v172 : BitVec 32 := Scalar.select v170 v171 v156
  let v173 : Index := Scalar.indexCast v172
  let c0_57 : Index := 0#32
  ![0, v173.toNat, 0]
def k0_mult2 (k0_t1 : Fin k0_t1_loop.trips) : BitVec 32 :=
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v13 : BitVec 32 := Scalar.muli arg9 c1_i32_1
  let v14 : BitVec 32 := Scalar.addi c0_i32_2 v13
  let c256_i32 : BitVec 32 := 256#32
  let v15 : BitVec 32 := Scalar.muli v14 c256_i32
  let c29312_i32 : BitVec 32 := 29312#32
  let v16 : BitVec 32 := Scalar.minsi v15 c29312_i32
  let v17 : BitVec 32 := v16
  let c0_i32_2378 : BitVec 32 := 0#32
  let v5748 : BitVec 1 := Scalar.cmpi .sgt v17 c0_i32_2378
  let v5749 : BitVec 32 := Scalar.extui v5748
  let c0_i32_2379 : BitVec 32 := 0#32
  let v5750 : BitVec 1 := Scalar.cmpi .slt v17 c0_i32_2379
  let v5751 : BitVec 32 := Scalar.extui v5750
  let v5752 : BitVec 32 := Scalar.subi v5749 v5751
  let c2_i32_2377 : BitVec 32 := 2#32
  let c0_i32_2380 : BitVec 32 := 0#32
  let v5753 : BitVec 1 := Scalar.cmpi .sgt c2_i32_2377 c0_i32_2380
  let v5754 : BitVec 32 := Scalar.extui v5753
  let c0_i32_2381 : BitVec 32 := 0#32
  let v5755 : BitVec 1 := Scalar.cmpi .slt c2_i32_2377 c0_i32_2381
  let v5756 : BitVec 32 := Scalar.extui v5755
  let v5757 : BitVec 32 := Scalar.subi v5754 v5756
  let v5758 : BitVec 1 := Scalar.cmpi .ne v5752 v5757
  let v5759 : BitVec 32 := Scalar.remsi v17 c2_i32_2377
  let c0_i32_2382 : BitVec 32 := 0#32
  let v5760 : BitVec 1 := Scalar.cmpi .ne v5759 c0_i32_2382
  let v5761 : BitVec 1 := Scalar.andi v5758 v5760
  let v5747 : BitVec 32 := Scalar.divsi v17 c2_i32_2377
  let c1_i32_2383 : BitVec 32 := 1#32
  let v5762 : BitVec 32 := Scalar.subi v5747 c1_i32_2383
  let v5763 : BitVec 32 := Scalar.select v5761 v5762 v5747
  v5763
def k0_off3 (k0_t1 : Fin k0_t1_loop.trips) : Fin 3 → Nat :=
  let c0_2384 : Index := 0#32
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v13 : BitVec 32 := Scalar.muli arg9 c1_i32_1
  let v14 : BitVec 32 := Scalar.addi c0_i32_2 v13
  let c256_i32 : BitVec 32 := 256#32
  let v15 : BitVec 32 := Scalar.muli v14 c256_i32
  let c29312_i32 : BitVec 32 := 29312#32
  let v16 : BitVec 32 := Scalar.minsi v15 c29312_i32
  let v17 : BitVec 32 := v16
  let c0_i32_2378 : BitVec 32 := 0#32
  let v5748 : BitVec 1 := Scalar.cmpi .sgt v17 c0_i32_2378
  let v5749 : BitVec 32 := Scalar.extui v5748
  let c0_i32_2379 : BitVec 32 := 0#32
  let v5750 : BitVec 1 := Scalar.cmpi .slt v17 c0_i32_2379
  let v5751 : BitVec 32 := Scalar.extui v5750
  let v5752 : BitVec 32 := Scalar.subi v5749 v5751
  let c2_i32_2377 : BitVec 32 := 2#32
  let c0_i32_2380 : BitVec 32 := 0#32
  let v5753 : BitVec 1 := Scalar.cmpi .sgt c2_i32_2377 c0_i32_2380
  let v5754 : BitVec 32 := Scalar.extui v5753
  let c0_i32_2381 : BitVec 32 := 0#32
  let v5755 : BitVec 1 := Scalar.cmpi .slt c2_i32_2377 c0_i32_2381
  let v5756 : BitVec 32 := Scalar.extui v5755
  let v5757 : BitVec 32 := Scalar.subi v5754 v5756
  let v5758 : BitVec 1 := Scalar.cmpi .ne v5752 v5757
  let v5759 : BitVec 32 := Scalar.remsi v17 c2_i32_2377
  let c0_i32_2382 : BitVec 32 := 0#32
  let v5760 : BitVec 1 := Scalar.cmpi .ne v5759 c0_i32_2382
  let v5761 : BitVec 1 := Scalar.andi v5758 v5760
  let v5747 : BitVec 32 := Scalar.divsi v17 c2_i32_2377
  let c1_i32_2383 : BitVec 32 := 1#32
  let v5762 : BitVec 32 := Scalar.subi v5747 c1_i32_2383
  let v5763 : BitVec 32 := Scalar.select v5761 v5762 v5747
  let v5764 : BitVec 32 := v5763
  let v5765 : Index := Scalar.indexCast v5764
  let c0_2385 : Index := 0#32
  ![0, v5765.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x29568 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x14784x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x924x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x384x29568 : Shape := ⟨3, ![4, 384, 29568]⟩
abbrev S2 : Shape := ⟨1, ![2]⟩
abbrev S1536 : Shape := ⟨1, ![1536]⟩
abbrev S4x384x1 : Shape := ⟨3, ![4, 384, 1]⟩
abbrev S7392 : Shape := ⟨1, ![7392]⟩
abbrev S_ : Shape := ⟨0, ![]⟩
abbrev S1x1x7392 : Shape := ⟨3, ![1, 1, 7392]⟩
abbrev S4x384x7392 : Shape := ⟨3, ![4, 384, 7392]⟩
abbrev S1 : Shape := ⟨1, ![1]⟩
abbrev S4x384x924x32 : Shape := ⟨4, ![4, 384, 924, 32]⟩
abbrev S4x384x7392x1 : Shape := ⟨4, ![4, 384, 7392, 1]⟩
abbrev S4x384x7392x4 : Shape := ⟨4, ![4, 384, 7392, 4]⟩
abbrev S4x384x924 : Shape := ⟨3, ![4, 384, 924]⟩
abbrev S254 : Shape := ⟨1, ![254]⟩
abbrev S4x384x924x1 : Shape := ⟨4, ![4, 384, 924, 1]⟩
abbrev S1x1x1x254 : Shape := ⟨4, ![1, 1, 1, 254]⟩
abbrev S4x384x924x254 : Shape := ⟨4, ![4, 384, 924, 254]⟩
abbrev S4x384x14784x2 : Shape := ⟨4, ![4, 384, 14784, 2]⟩
abbrev S4x384x14784x1 : Shape := ⟨4, ![4, 384, 14784, 1]⟩
abbrev S4x384x14784 : Shape := ⟨3, ![4, 384, 14784]⟩

abbrev nBuf : Space → Nat
  | .hbm => 257
  | .vmem => 0
  | .smem => 0
  | _ => 0

abbrev hbmTy0_0 (i : Nat) : BufTy := match i % 128 with
  | 0 => ⟨S4x384x29568, .bf16⟩
  | 1 => ⟨S2, .i32⟩
  | 2 => ⟨S1536, .i32⟩
  | 3 => ⟨S4x384x1, .i32⟩
  | 4 => ⟨S7392, .i32⟩
  | 5 => ⟨S_, .i32⟩
  | 6 => ⟨S7392, .i32⟩
  | 7 => ⟨S7392, .i32⟩
  | 8 => ⟨S_, .i32⟩
  | 9 => ⟨S7392, .i32⟩
  | 10 => ⟨S7392, .i32⟩
  | 11 => ⟨S_, .i32⟩
  | 12 => ⟨S4x384x1, .i32⟩
  | 13 => ⟨S4x384x1, .i32⟩
  | 14 => ⟨S1x1x7392, .i32⟩
  | 15 => ⟨S4x384x7392, .i32⟩
  | 16 => ⟨S4x384x7392, .i32⟩
  | 17 => ⟨S4x384x7392, .i32⟩
  | 18 => ⟨S_, .i32⟩
  | 19 => ⟨S4x384x7392, .i32⟩
  | 20 => ⟨S4x384x7392, .i32⟩
  | 21 => ⟨S_, .i32⟩
  | 22 => ⟨S4x384x7392, .i32⟩
  | 23 => ⟨S1, .i32⟩
  | 24 => ⟨S_, .i32⟩
  | 25 => ⟨S1, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S4x384x7392, .i32⟩
  | 40 => ⟨S4x384x7392, .i32⟩
  | 41 => ⟨S4x384x7392, .i32⟩
  | 42 => ⟨S4x384x7392, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S4x384x7392, .i32⟩
  | 50 => ⟨S4x384x7392, .i32⟩
  | 51 => ⟨S_, .i32⟩
  | 52 => ⟨S_, .i32⟩
  | 53 => ⟨S_, .i32⟩
  | 54 => ⟨S_, .i32⟩
  | 55 => ⟨S_, .i32⟩
  | 56 => ⟨S4x384x7392, .i32⟩
  | 57 => ⟨S4x384x7392, .i32⟩
  | 58 => ⟨S_, .i32⟩
  | 59 => ⟨S4x384x7392, .i32⟩
  | 60 => ⟨S4x384x7392, .i32⟩
  | 61 => ⟨S4x384x7392, .i32⟩
  | 62 => ⟨S4x384x7392, .i32⟩
  | 63 => ⟨S4x384x7392, .i32⟩
  | 64 => ⟨S4x384x7392, .i32⟩
  | 65 => ⟨S_, .i32⟩
  | 66 => ⟨S4x384x7392, .i32⟩
  | 67 => ⟨S4x384x7392, .i32⟩
  | 68 => ⟨S4x384x7392, .i32⟩
  | 69 => ⟨S4x384x7392, .i32⟩
  | 70 => ⟨S4x384x7392, .i32⟩
  | 71 => ⟨S_, .i32⟩
  | 72 => ⟨S4x384x7392, .i32⟩
  | 73 => ⟨S4x384x7392, .i32⟩
  | 74 => ⟨S4x384x7392, .i32⟩
  | 75 => ⟨S4x384x7392, .i32⟩
  | 76 => ⟨S4x384x7392, .i32⟩
  | 77 => ⟨S_, .i32⟩
  | 78 => ⟨S4x384x7392, .i32⟩
  | 79 => ⟨S4x384x7392, .i32⟩
  | 80 => ⟨S4x384x7392, .i32⟩
  | 81 => ⟨S_, .i32⟩
  | 82 => ⟨S4x384x7392, .i32⟩
  | 83 => ⟨S4x384x7392, .i32⟩
  | 84 => ⟨S4x384x7392, .i32⟩
  | 85 => ⟨S4x384x7392, .i32⟩
  | 86 => ⟨S4x384x7392, .i32⟩
  | 87 => ⟨S_, .i32⟩
  | 88 => ⟨S_, .i32⟩
  | 89 => ⟨S_, .i32⟩
  | 90 => ⟨S_, .i32⟩
  | 91 => ⟨S_, .i32⟩
  | 92 => ⟨S4x384x7392, .i32⟩
  | 93 => ⟨S4x384x7392, .i32⟩
  | 94 => ⟨S_, .i32⟩
  | 95 => ⟨S4x384x7392, .i32⟩
  | 96 => ⟨S4x384x7392, .i32⟩
  | 97 => ⟨S4x384x7392, .i32⟩
  | 98 => ⟨S4x384x7392, .i32⟩
  | 99 => ⟨S4x384x7392, .i32⟩
  | 100 => ⟨S4x384x7392, .i32⟩
  | 101 => ⟨S_, .i32⟩
  | 102 => ⟨S4x384x7392, .i32⟩
  | 103 => ⟨S4x384x7392, .i32⟩
  | 104 => ⟨S4x384x7392, .i32⟩
  | 105 => ⟨S4x384x7392, .i32⟩
  | 106 => ⟨S4x384x7392, .i32⟩
  | 107 => ⟨S_, .i32⟩
  | 108 => ⟨S4x384x7392, .i32⟩
  | 109 => ⟨S4x384x7392, .i32⟩
  | 110 => ⟨S4x384x7392, .i32⟩
  | 111 => ⟨S4x384x7392, .i32⟩
  | 112 => ⟨S4x384x7392, .i32⟩
  | 113 => ⟨S_, .i32⟩
  | 114 => ⟨S4x384x7392, .i32⟩
  | 115 => ⟨S4x384x7392, .i32⟩
  | 116 => ⟨S4x384x7392, .i32⟩
  | 117 => ⟨S_, .i32⟩
  | 118 => ⟨S4x384x7392, .i32⟩
  | 119 => ⟨S4x384x7392, .i32⟩
  | 120 => ⟨S4x384x7392, .i32⟩
  | 121 => ⟨S4x384x7392, .i32⟩
  | 122 => ⟨S4x384x7392, .i32⟩
  | 123 => ⟨S4x384x7392, .i32⟩
  | 124 => ⟨S4x384x7392, .i32⟩
  | 125 => ⟨S4x384x7392, .i32⟩
  | 126 => ⟨S4x384x7392, .i32⟩
  | 127 => ⟨S_, .i32⟩
  | _ => ⟨S4x384x29568, .bf16⟩

abbrev hbmTy0_1 (i : Nat) : BufTy := match i % 128 with
  | 0 => ⟨S_, .i32⟩
  | 1 => ⟨S_, .i32⟩
  | 2 => ⟨S_, .i32⟩
  | 3 => ⟨S4x384x29568, .f32⟩
  | 4 => ⟨S4x384x924x32, .f32⟩
  | 5 => ⟨S4x384x7392x1, .i32⟩
  | 6 => ⟨S4x384x7392x1, .i32⟩
  | 7 => ⟨S4x384x7392x1, .i32⟩
  | 8 => ⟨S4x384x7392x1, .i32⟩
  | 9 => ⟨S4x384x7392x4, .i32⟩
  | 10 => ⟨S4x384x924x32, .i32⟩
  | 11 => ⟨S4x384x924x32, .f32⟩
  | 12 => ⟨S_, .f32⟩
  | 13 => ⟨S4x384x924, .f32⟩
  | 14 => ⟨S_, .f32⟩
  | 15 => ⟨S4x384x924, .f32⟩
  | 16 => ⟨S4x384x924, .i1⟩
  | 17 => ⟨S254, .i32⟩
  | 18 => ⟨S_, .i32⟩
  | 19 => ⟨S254, .i32⟩
  | 20 => ⟨S254, .i32⟩
  | 21 => ⟨S254, .f32⟩
  | 22 => ⟨S_, .f32⟩
  | 23 => ⟨S254, .f32⟩
  | 24 => ⟨S254, .f32⟩
  | 25 => ⟨S4x384x924x1, .f32⟩
  | 26 => ⟨S1x1x1x254, .f32⟩
  | 27 => ⟨S4x384x924x254, .f32⟩
  | 28 => ⟨S4x384x924x254, .f32⟩
  | 29 => ⟨S4x384x924x254, .i1⟩
  | 30 => ⟨S_, .i32⟩
  | 31 => ⟨S4x384x924x254, .i32⟩
  | 32 => ⟨S4x384x924x254, .i32⟩
  | 33 => ⟨S4x384x924x254, .i32⟩
  | 34 => ⟨S_, .i32⟩
  | 35 => ⟨S4x384x924, .i32⟩
  | 36 => ⟨S_, .i32⟩
  | 37 => ⟨S4x384x924, .i32⟩
  | 38 => ⟨S4x384x924, .i32⟩
  | 39 => ⟨S_, .i32⟩
  | 40 => ⟨S4x384x924, .i32⟩
  | 41 => ⟨S4x384x924, .i32⟩
  | 42 => ⟨S_, .i32⟩
  | 43 => ⟨S4x384x924, .i32⟩
  | 44 => ⟨S4x384x924, .i32⟩
  | 45 => ⟨S_, .i32⟩
  | 46 => ⟨S4x384x924, .i32⟩
  | 47 => ⟨S4x384x924, .i32⟩
  | 48 => ⟨S4x384x924, .i8⟩
  | 49 => ⟨S4x384x924x32, .f32⟩
  | 50 => ⟨S_, .f32⟩
  | 51 => ⟨S4x384x924x32, .f32⟩
  | 52 => ⟨S4x384x924x32, .f32⟩
  | 53 => ⟨S4x384x924, .i32⟩
  | 54 => ⟨S4x384x924, .f32⟩
  | 55 => ⟨S_, .f32⟩
  | 56 => ⟨S4x384x924, .f32⟩
  | 57 => ⟨S4x384x924, .f32⟩
  | 58 => ⟨S4x384x924x1, .f32⟩
  | 59 => ⟨S4x384x924x32, .f32⟩
  | 60 => ⟨S4x384x924x32, .f32⟩
  | 61 => ⟨S_, .f32⟩
  | 62 => ⟨S4x384x924x32, .f32⟩
  | 63 => ⟨S4x384x924x32, .f32⟩
  | 64 => ⟨S4x384x924x32, .f32⟩
  | 65 => ⟨S_, .f32⟩
  | 66 => ⟨S4x384x924x32, .f32⟩
  | 67 => ⟨S4x384x924x32, .f32⟩
  | 68 => ⟨S4x384x924x32, .f32⟩
  | 69 => ⟨S_, .f32⟩
  | 70 => ⟨S4x384x924x32, .f32⟩
  | 71 => ⟨S4x384x924x32, .i1⟩
  | 72 => ⟨S_, .f32⟩
  | 73 => ⟨S4x384x924x32, .f32⟩
  | 74 => ⟨S4x384x924x32, .i1⟩
  | 75 => ⟨S_, .f32⟩
  | 76 => ⟨S4x384x924x32, .f32⟩
  | 77 => ⟨S4x384x924x32, .f32⟩
  | 78 => ⟨S_, .f32⟩
  | 79 => ⟨S_, .f32⟩
  | 80 => ⟨S4x384x924x32, .f32⟩
  | 81 => ⟨S4x384x924x32, .f32⟩
  | 82 => ⟨S4x384x924x32, .f32⟩
  | 83 => ⟨S_, .f32⟩
  | 84 => ⟨S4x384x924x32, .f32⟩
  | 85 => ⟨S4x384x924x32, .f32⟩
  | 86 => ⟨S4x384x924x32, .f32⟩
  | 87 => ⟨S_, .f32⟩
  | 88 => ⟨S4x384x924x32, .f32⟩
  | 89 => ⟨S4x384x924x32, .f32⟩
  | 90 => ⟨S4x384x924x32, .f32⟩
  | 91 => ⟨S_, .f32⟩
  | 92 => ⟨S4x384x924x32, .f32⟩
  | 93 => ⟨S4x384x924x32, .f32⟩
  | 94 => ⟨S_, .f32⟩
  | 95 => ⟨S4x384x924x32, .f32⟩
  | 96 => ⟨S4x384x924x32, .f32⟩
  | 97 => ⟨S4x384x924x32, .f32⟩
  | 98 => ⟨S4x384x924x32, .f32⟩
  | 99 => ⟨S_, .i32⟩
  | 100 => ⟨S4x384x924x32, .i32⟩
  | 101 => ⟨S4x384x924x32, .i32⟩
  | 102 => ⟨S4x384x924x32, .f32⟩
  | 103 => ⟨S_, .f32⟩
  | 104 => ⟨S4x384x924x32, .f32⟩
  | 105 => ⟨S4x384x924x32, .f32⟩
  | 106 => ⟨S4x384x924x32, .i32⟩
  | 107 => ⟨S4x384x924x32, .i1⟩
  | 108 => ⟨S4x384x924x32, .i32⟩
  | 109 => ⟨S4x384x924x32, .i32⟩
  | 110 => ⟨S_, .f32⟩
  | 111 => ⟨S4x384x924x32, .f32⟩
  | 112 => ⟨S4x384x924x32, .i1⟩
  | 113 => ⟨S_, .i32⟩
  | 114 => ⟨S_, .i32⟩
  | 115 => ⟨S4x384x924x32, .i32⟩
  | 116 => ⟨S4x384x924x32, .i32⟩
  | 117 => ⟨S4x384x924x32, .i32⟩
  | 118 => ⟨S4x384x924x32, .i32⟩
  | 119 => ⟨S4x384x14784x2, .i32⟩
  | 120 => ⟨S4x384x14784x1, .i32⟩
  | 121 => ⟨S4x384x14784, .i32⟩
  | 122 => ⟨S4x384x14784x1, .i32⟩
  | 123 => ⟨S4x384x14784, .i32⟩
  | 124 => ⟨S_, .i32⟩
  | 125 => ⟨S4x384x14784, .i32⟩
  | 126 => ⟨S4x384x14784, .i32⟩
  | 127 => ⟨S4x384x14784, .i32⟩
  | _ => ⟨S4x384x29568, .bf16⟩

abbrev hbmTy0_2 (i : Nat) : BufTy := match i % 128 with
  | 0 => ⟨S4x384x14784, .i8⟩
  | _ => ⟨S4x384x29568, .bf16⟩

abbrev hbmTy (i : Nat) : BufTy := match i / 128 with
  | 0 => hbmTy0_0 i
  | 1 => hbmTy0_1 i
  | 2 => hbmTy0_2 i
  | _ => ⟨S4x384x29568, .bf16⟩

abbrev bufTy : (tb : Table) → Fin (tcTables nBuf tb) → BufTy
  | .hbm, ⟨i, _⟩ => hbmTy i
  | _, _ => ⟨S4x384x29568, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_4 : Ref sig .tc := ⟨.hbm, 27, rfl⟩
abbrev main_c_5 : Ref sig .tc := ⟨.hbm, 28, rfl⟩
abbrev main_c_6 : Ref sig .tc := ⟨.hbm, 29, rfl⟩
abbrev main_c_7 : Ref sig .tc := ⟨.hbm, 30, rfl⟩
abbrev main_c_8 : Ref sig .tc := ⟨.hbm, 31, rfl⟩
abbrev main_c_9 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev main_v20_7 : Ref sig .tc := ⟨.hbm, 40, rfl⟩
abbrev main_v20_8 : Ref sig .tc := ⟨.hbm, 41, rfl⟩
abbrev main_v20_9 : Ref sig .tc := ⟨.hbm, 42, rfl⟩
abbrev main_v20_10 : Ref sig .tc := ⟨.hbm, 43, rfl⟩
abbrev main_v20_11 : Ref sig .tc := ⟨.hbm, 44, rfl⟩
abbrev main_while0c_c_48 : Ref sig .tc := ⟨.hbm, 45, rfl⟩
abbrev main_while0c_v112 : Ref sig .tc := ⟨.hbm, 46, rfl⟩
abbrev main_while0b_c_48 : Ref sig .tc := ⟨.hbm, 47, rfl⟩
abbrev main_while0b_v112 : Ref sig .tc := ⟨.hbm, 48, rfl⟩
abbrev main_while0b_v113 : Ref sig .tc := ⟨.hbm, 49, rfl⟩
abbrev main_while0b_v114 : Ref sig .tc := ⟨.hbm, 50, rfl⟩
abbrev main_while0b_c_49 : Ref sig .tc := ⟨.hbm, 51, rfl⟩
abbrev main_while0b_v115 : Ref sig .tc := ⟨.hbm, 52, rfl⟩
abbrev main_while0b_c_50 : Ref sig .tc := ⟨.hbm, 53, rfl⟩
abbrev main_while0b_v116 : Ref sig .tc := ⟨.hbm, 54, rfl⟩
abbrev main_while0b_c_51 : Ref sig .tc := ⟨.hbm, 55, rfl⟩
abbrev main_while0b_v117 : Ref sig .tc := ⟨.hbm, 56, rfl⟩
abbrev main_while0b_v118 : Ref sig .tc := ⟨.hbm, 57, rfl⟩
abbrev main_while0b_c_52 : Ref sig .tc := ⟨.hbm, 58, rfl⟩
abbrev main_while0b_v119 : Ref sig .tc := ⟨.hbm, 59, rfl⟩
abbrev main_while0b_v120 : Ref sig .tc := ⟨.hbm, 60, rfl⟩
abbrev main_while0b_v121 : Ref sig .tc := ⟨.hbm, 61, rfl⟩
abbrev main_while0b_v122 : Ref sig .tc := ⟨.hbm, 62, rfl⟩
abbrev main_while0b_v123 : Ref sig .tc := ⟨.hbm, 63, rfl⟩
abbrev main_while0b_v124 : Ref sig .tc := ⟨.hbm, 64, rfl⟩
abbrev main_while0b_c_53 : Ref sig .tc := ⟨.hbm, 65, rfl⟩
abbrev main_while0b_v125 : Ref sig .tc := ⟨.hbm, 66, rfl⟩
abbrev main_while0b_v126 : Ref sig .tc := ⟨.hbm, 67, rfl⟩
abbrev main_while0b_v127 : Ref sig .tc := ⟨.hbm, 68, rfl⟩
abbrev main_while0b_v128 : Ref sig .tc := ⟨.hbm, 69, rfl⟩
abbrev main_while0b_v129 : Ref sig .tc := ⟨.hbm, 70, rfl⟩
abbrev main_while0b_c_54 : Ref sig .tc := ⟨.hbm, 71, rfl⟩
abbrev main_while0b_v130 : Ref sig .tc := ⟨.hbm, 72, rfl⟩
abbrev main_while0b_v131 : Ref sig .tc := ⟨.hbm, 73, rfl⟩
abbrev main_while0b_v132 : Ref sig .tc := ⟨.hbm, 74, rfl⟩
abbrev main_while0b_v133 : Ref sig .tc := ⟨.hbm, 75, rfl⟩
abbrev main_while0b_v134 : Ref sig .tc := ⟨.hbm, 76, rfl⟩
abbrev main_while0b_c_55 : Ref sig .tc := ⟨.hbm, 77, rfl⟩
abbrev main_while0b_v135 : Ref sig .tc := ⟨.hbm, 78, rfl⟩
abbrev main_while0b_v136 : Ref sig .tc := ⟨.hbm, 79, rfl⟩
abbrev main_while0b_v137 : Ref sig .tc := ⟨.hbm, 80, rfl⟩
abbrev main_while0b_c_56 : Ref sig .tc := ⟨.hbm, 81, rfl⟩
abbrev main_while0b_v138 : Ref sig .tc := ⟨.hbm, 82, rfl⟩
abbrev main_while0b_v139 : Ref sig .tc := ⟨.hbm, 83, rfl⟩
abbrev main_while0b_v140 : Ref sig .tc := ⟨.hbm, 84, rfl⟩
abbrev main_while0b_v141 : Ref sig .tc := ⟨.hbm, 85, rfl⟩
abbrev main_while0b_v142 : Ref sig .tc := ⟨.hbm, 86, rfl⟩
abbrev main_while0b_c_57 : Ref sig .tc := ⟨.hbm, 87, rfl⟩
abbrev main_while0b_v143 : Ref sig .tc := ⟨.hbm, 88, rfl⟩
abbrev main_while0b_c_58 : Ref sig .tc := ⟨.hbm, 89, rfl⟩
abbrev main_while0b_v144 : Ref sig .tc := ⟨.hbm, 90, rfl⟩
abbrev main_while0b_c_59 : Ref sig .tc := ⟨.hbm, 91, rfl⟩
abbrev main_while0b_v145 : Ref sig .tc := ⟨.hbm, 92, rfl⟩
abbrev main_while0b_v146 : Ref sig .tc := ⟨.hbm, 93, rfl⟩
abbrev main_while0b_c_60 : Ref sig .tc := ⟨.hbm, 94, rfl⟩
abbrev main_while0b_v147 : Ref sig .tc := ⟨.hbm, 95, rfl⟩
abbrev main_while0b_v148 : Ref sig .tc := ⟨.hbm, 96, rfl⟩
abbrev main_while0b_v149 : Ref sig .tc := ⟨.hbm, 97, rfl⟩
abbrev main_while0b_v150 : Ref sig .tc := ⟨.hbm, 98, rfl⟩
abbrev main_while0b_v151 : Ref sig .tc := ⟨.hbm, 99, rfl⟩
abbrev main_while0b_v152 : Ref sig .tc := ⟨.hbm, 100, rfl⟩
abbrev main_while0b_c_61 : Ref sig .tc := ⟨.hbm, 101, rfl⟩
abbrev main_while0b_v153 : Ref sig .tc := ⟨.hbm, 102, rfl⟩
abbrev main_while0b_v154 : Ref sig .tc := ⟨.hbm, 103, rfl⟩
abbrev main_while0b_v155 : Ref sig .tc := ⟨.hbm, 104, rfl⟩
abbrev main_while0b_v156 : Ref sig .tc := ⟨.hbm, 105, rfl⟩
abbrev main_while0b_v157 : Ref sig .tc := ⟨.hbm, 106, rfl⟩
abbrev main_while0b_c_62 : Ref sig .tc := ⟨.hbm, 107, rfl⟩
abbrev main_while0b_v158 : Ref sig .tc := ⟨.hbm, 108, rfl⟩
abbrev main_while0b_v159 : Ref sig .tc := ⟨.hbm, 109, rfl⟩
abbrev main_while0b_v160 : Ref sig .tc := ⟨.hbm, 110, rfl⟩
abbrev main_while0b_v161 : Ref sig .tc := ⟨.hbm, 111, rfl⟩
abbrev main_while0b_v162 : Ref sig .tc := ⟨.hbm, 112, rfl⟩
abbrev main_while0b_c_63 : Ref sig .tc := ⟨.hbm, 113, rfl⟩
abbrev main_while0b_v163 : Ref sig .tc := ⟨.hbm, 114, rfl⟩
abbrev main_while0b_v164 : Ref sig .tc := ⟨.hbm, 115, rfl⟩
abbrev main_while0b_v165 : Ref sig .tc := ⟨.hbm, 116, rfl⟩
abbrev main_while0b_c_64 : Ref sig .tc := ⟨.hbm, 117, rfl⟩
abbrev main_while0b_v166 : Ref sig .tc := ⟨.hbm, 118, rfl⟩
abbrev main_while0b_v167 : Ref sig .tc := ⟨.hbm, 119, rfl⟩
abbrev main_while0b_v168 : Ref sig .tc := ⟨.hbm, 120, rfl⟩
abbrev main_while0b_v169 : Ref sig .tc := ⟨.hbm, 121, rfl⟩
abbrev main_while0b_v170 : Ref sig .tc := ⟨.hbm, 122, rfl⟩
abbrev main_while0b_v171 : Ref sig .tc := ⟨.hbm, 123, rfl⟩
abbrev main_while0b_v172 : Ref sig .tc := ⟨.hbm, 124, rfl⟩
abbrev main_while0b_v173 : Ref sig .tc := ⟨.hbm, 125, rfl⟩
abbrev main_while0b_v174 : Ref sig .tc := ⟨.hbm, 126, rfl⟩
abbrev main_while0b_v175 : Ref sig .tc := ⟨.hbm, 127, rfl⟩
abbrev main_while0b_v176 : Ref sig .tc := ⟨.hbm, 128, rfl⟩
abbrev main_while0b_c_65 : Ref sig .tc := ⟨.hbm, 129, rfl⟩
abbrev main_while0b_v177 : Ref sig .tc := ⟨.hbm, 130, rfl⟩
abbrev main_v21 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_cst : Ref sig .tc := ⟨.hbm, 140, rfl⟩
abbrev main_v30 : Ref sig .tc := ⟨.hbm, 141, rfl⟩
abbrev main_cst_10 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_c_11 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_cst_12 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_c_13 : Ref sig .tc := ⟨.hbm, 158, rfl⟩
abbrev main_call0_v0 : Ref sig .tc := ⟨.hbm, 159, rfl⟩
abbrev main_call0_v1 : Ref sig .tc := ⟨.hbm, 160, rfl⟩
abbrev main_v44 : Ref sig .tc := ⟨.hbm, 161, rfl⟩
abbrev main_c_14 : Ref sig .tc := ⟨.hbm, 162, rfl⟩
abbrev main_v45 : Ref sig .tc := ⟨.hbm, 163, rfl⟩
abbrev main_c_15 : Ref sig .tc := ⟨.hbm, 164, rfl⟩
abbrev main_v46 : Ref sig .tc := ⟨.hbm, 165, rfl⟩
abbrev main_v47 : Ref sig .tc := ⟨.hbm, 166, rfl⟩
abbrev main_c_16 : Ref sig .tc := ⟨.hbm, 167, rfl⟩
abbrev main_v48 : Ref sig .tc := ⟨.hbm, 168, rfl⟩
abbrev main_v49 : Ref sig .tc := ⟨.hbm, 169, rfl⟩
abbrev main_c_17 : Ref sig .tc := ⟨.hbm, 170, rfl⟩
abbrev main_call1_v0 : Ref sig .tc := ⟨.hbm, 171, rfl⟩
abbrev main_v50 : Ref sig .tc := ⟨.hbm, 172, rfl⟩
abbrev main_c_18 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_cst_19 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_cst_20 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_cst_21 : Ref sig .tc := ⟨.hbm, 189, rfl⟩
abbrev main_v64 : Ref sig .tc := ⟨.hbm, 190, rfl⟩
abbrev main_v65 : Ref sig .tc := ⟨.hbm, 191, rfl⟩
abbrev main_v66 : Ref sig .tc := ⟨.hbm, 192, rfl⟩
abbrev main_cst_22 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_cst_23 : Ref sig .tc := ⟨.hbm, 197, rfl⟩
abbrev main_v70 : Ref sig .tc := ⟨.hbm, 198, rfl⟩
abbrev main_v71 : Ref sig .tc := ⟨.hbm, 199, rfl⟩
abbrev main_cst_24 : Ref sig .tc := ⟨.hbm, 200, rfl⟩
abbrev main_v72 : Ref sig .tc := ⟨.hbm, 201, rfl⟩
abbrev main_v73 : Ref sig .tc := ⟨.hbm, 202, rfl⟩
abbrev main_cst_25 : Ref sig .tc := ⟨.hbm, 203, rfl⟩
abbrev main_v74 : Ref sig .tc := ⟨.hbm, 204, rfl⟩
abbrev main_v75 : Ref sig .tc := ⟨.hbm, 205, rfl⟩
abbrev main_cst_26 : Ref sig .tc := ⟨.hbm, 206, rfl⟩
abbrev main_call2_v0 : Ref sig .tc := ⟨.hbm, 207, rfl⟩
abbrev main_call2_v1 : Ref sig .tc := ⟨.hbm, 208, rfl⟩
abbrev main_v76 : Ref sig .tc := ⟨.hbm, 209, rfl⟩
abbrev main_v77 : Ref sig .tc := ⟨.hbm, 210, rfl⟩
abbrev main_cst_27 : Ref sig .tc := ⟨.hbm, 211, rfl⟩
abbrev main_v78 : Ref sig .tc := ⟨.hbm, 212, rfl⟩
abbrev main_v79 : Ref sig .tc := ⟨.hbm, 213, rfl⟩
abbrev main_v80 : Ref sig .tc := ⟨.hbm, 214, rfl⟩
abbrev main_cst_28 : Ref sig .tc := ⟨.hbm, 215, rfl⟩
abbrev main_v81 : Ref sig .tc := ⟨.hbm, 216, rfl⟩
abbrev main_v82 : Ref sig .tc := ⟨.hbm, 217, rfl⟩
abbrev main_v83 : Ref sig .tc := ⟨.hbm, 218, rfl⟩
abbrev main_cst_29 : Ref sig .tc := ⟨.hbm, 219, rfl⟩
abbrev main_v84 : Ref sig .tc := ⟨.hbm, 220, rfl⟩
abbrev main_v85 : Ref sig .tc := ⟨.hbm, 221, rfl⟩
abbrev main_cst_30 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_c_31 : Ref sig .tc := ⟨.hbm, 227, rfl⟩
abbrev main_v90 : Ref sig .tc := ⟨.hbm, 228, rfl⟩
abbrev main_v91 : Ref sig .tc := ⟨.hbm, 229, rfl⟩
abbrev main_v92 : Ref sig .tc := ⟨.hbm, 230, rfl⟩
abbrev main_cst_32 : Ref sig .tc := ⟨.hbm, 231, rfl⟩
abbrev main_v93 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_v97 : Ref sig .tc := ⟨.hbm, 236, rfl⟩
abbrev main_v98 : Ref sig .tc := ⟨.hbm, 237, rfl⟩
abbrev main_cst_33 : Ref sig .tc := ⟨.hbm, 238, rfl⟩
abbrev main_v99 : Ref sig .tc := ⟨.hbm, 239, rfl⟩
abbrev main_v100 : Ref sig .tc := ⟨.hbm, 240, rfl⟩
abbrev main_c_34 : Ref sig .tc := ⟨.hbm, 241, rfl⟩
abbrev main_c_35 : Ref sig .tc := ⟨.hbm, 242, rfl⟩
abbrev main_call6_v0 : Ref sig .tc := ⟨.hbm, 243, rfl⟩
abbrev main_call6_v1 : Ref sig .tc := ⟨.hbm, 244, rfl⟩
abbrev main_v101 : Ref sig .tc := ⟨.hbm, 245, rfl⟩
abbrev main_v102 : Ref sig .tc := ⟨.hbm, 246, rfl⟩
abbrev main_v103 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_c_36 : Ref sig .tc := ⟨.hbm, 252, rfl⟩
abbrev main_v108 : Ref sig .tc := ⟨.hbm, 253, rfl⟩
abbrev main_v109 : Ref sig .tc := ⟨.hbm, 254, rfl⟩
abbrev main_v110 : Ref sig .tc := ⟨.hbm, 255, rfl⟩
abbrev main_v111 : Ref sig .tc := ⟨.hbm, 256, rfl⟩

abbrev nD : Nat := 1
abbrev τ : Topo := Topo.v7x

variable {F : FTy → Type} [FloatOps F]

abbrev main_while0_count : Scf.Loop 32 := ⟨0#32, 10#32, 1#32⟩
-- ==== Proof.Trip.lean ====
/-
  One trip of the kernel's loop over the tiles of channels, run once at a symbolic trip number.
-/
module

public import proofs.«01_k».proof.Proof.Gen.Kernel.Skeleton
public import proofs.«01_k».proof.Proof.Gen.Kernel.Loops
public import Idealize.ShloMosaic.Lib.Tactic

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
abbrev UU (nD : Nat) (τ : Topo) : Type := UR sig nD τ
/-- No variants. -/
abbrev 𝒱₀ : Variants := Variants.none

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 400000 in
/-- What one trip writes: the pieces of the codes' block and of the scales' block, with the run of the trip. -/
def trip (c : Dev nD) (i : grid0.Coords) (arg1 : Memref sig .tc .smem S2 .i32) (harg1 : arg1.IsWhole) (arg2 : Memref sig .tc .vmem S128x29568 .bf16) (harg2 : arg2.IsWhole) (arg3 : Memref sig .tc .vmem S256x256 .bf16) (harg3 : arg3.IsWhole) (arg4 : Memref sig .tc .vmem S64x256 .bf16) (harg4 : arg4.IsWhole) (arg5 : Memref sig .tc .vmem S1x14784x128 .i8) (harg5 : arg5.IsWhole) (arg6 : Memref sig .tc .vmem S1x924x128 .i32) (harg6 : arg6.IsWhole) (arg7 : Memref sig .tc .vmem S256x128 .f32) (harg7 : arg7.IsWhole) (arg8 : Memref sig .tc .vmem S32x128 .i32) (harg8 : arg8.IsWhole) (v0 : Elt F .i32) (v1 : Elt F .i32)
    (f2 : Bf (F := F) c arg2) (f3 : Bf (F := F) c arg3) (f4 : Bf (F := F) c arg4) (f8 : Bf (F := F) c arg8) (k : Fin k0_t1_loop.trips) :
    Σ' (L5 : List (View.Piece (Elt F) S1x14784x128 .i8)), { L6 : List (View.Piece (Elt F) S1x924x128 .i32) //
      ∀ (f5 : Bf (F := F) c arg5) (f6 : Bf (F := F) c arg6) (f7 : Bf (F := F) c arg7)
        (Q : Unit → sProp 𝕄),
        iprop(pt c arg2 f2 ∗ pt c arg3 f3 ∗ pt c arg4 f4 ∗ pt c arg5 f5 ∗ pt c arg6 f6 ∗ pt c arg7 f7 ∗ pt c arg8 f8
          ∗ (iprop(pt c arg2 f2 ∗ pt c arg3 f3 ∗ pt c arg4 f4 ∗ pt c arg5 (arg5.view.writes (Elt F) f5 L5)
              ∗ pt c arg6 (arg6.view.writes (Elt F) f6 L6) ∗ (∃ f, pt c arg7 f) ∗ (∃ f, pt c arg8 f)) -∗ Q ⟨⟩))
        ⊢ wp frame (wpE (defs₀ (F := F)) 𝒱₀ (c : Thread nD τ) none) Set.univ
            (k0_t1_body (F := F) i arg1 harg1 arg2 harg2 arg3 harg3 arg4 harg4 arg5 harg5 arg6 harg6 arg7 harg7 arg8 harg8 v0 v1 k ()) Q } := by
  refine ⟨?_, ?_, fun f5 f6 f7 Q => ?run⟩
  case run =>
    unfold k0_t1_body
    iintro ⟨H2, H3, H4, H5, H6, H7, H8, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexists _; iexact H7
    iexists _; iexact H8

end Cert.Proof.K

end
-- ==== Proof.Body.lean ====
/-
  The kernel's loop and its body: what one grid point leaves in the codes' block and in the scales' block, row by row.
-/
module

public import proofs.«01_k».proof.Proof.Trip
public import proofs.«01_k».proof.Proof.Gen.Kernel.Frame
public import Idealize.ShloMosaic.Lib.Pipeline.Frame
public import Idealize.ShloMosaic.Lib.Pipeline.FrameBody
public import Idealize.ShloMosaic.Lib.Pipeline.FrameSuffix
public import Idealize.ShloMosaic.Lib.Writes
public import Idealize.ShloMosaic.Lib.Tactic

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Where a trip writes -/

theorem trips_eq : k0_t1_loop.trips = 116 := by decide +kernel
theorem off3_eq : ∀ k : Fin k0_t1_loop.trips, k0_off3 k = ![0, min (128 * k.val) 14656, 0] := by decide +kernel
theorem off2_eq : ∀ k : Fin k0_t1_loop.trips, k0_off2 k = ![0, min (8 * k.val) 916, 0] := by decide +kernel

/-- The trip that last writes row `r` of the codes' block, and of the scales' block. -/
def codeTrip (r : ℕ) : ℕ := if r < 14656 then r / 128 else 115
def scaleTrip (r : ℕ) : ℕ := if r < 916 then r / 8 else 115

theorem codeTrip_lt (y : S1x14784x128.Idx) : codeTrip (y 1).val < k0_t1_loop.trips := by
  rw [trips_eq]; unfold codeTrip; split <;> omega
theorem scaleTrip_lt (y : S1x924x128.Idx) : scaleTrip (y 1).val < k0_t1_loop.trips := by
  rw [trips_eq]; unfold scaleTrip; split <;> omega

/-- The place of a codes' row inside its trip's 128 rows, and of a scales' row inside its trip's 8. -/
def codePlace (y : S1x14784x128.Idx) : S1x128x128.Idx := fun
  | ⟨0, _⟩ => ⟨0, Nat.zero_lt_one⟩
  | ⟨1, _⟩ => ⟨(y 1).val - min (128 * codeTrip (y 1).val) 14656, by
      have h := (y 1).isLt
      change (y 1).val < 14784 at h
      change _ < 128
      unfold codeTrip; split <;> omega⟩
  | ⟨2, _⟩ => ⟨(y 2).val, (y 2).isLt⟩
  | ⟨_ + 3, h⟩ => absurd h (Nat.not_lt.2 (Nat.le_add_left _ _))
def scalePlace (y : S1x924x128.Idx) : S1x8x128.Idx := fun
  | ⟨0, _⟩ => ⟨0, Nat.zero_lt_one⟩
  | ⟨1, _⟩ => ⟨(y 1).val - min (8 * scaleTrip (y 1).val) 916, by
      have h := (y 1).isLt
      change (y 1).val < 924 at h
      change _ < 8
      unfold scaleTrip; split <;> omega⟩
  | ⟨2, _⟩ => ⟨(y 2).val, (y 2).isLt⟩
  | ⟨_ + 3, h⟩ => absurd h (Nat.not_lt.2 (Nat.le_add_left _ _))

/-! ## The words a trip assembles -/

/-- Four groups of eight rows interleaved: row `q` is row `q / 4` of group `q % 4`. -/
def words {α : Type} (a0 a1 a2 a3 : S8x128.Idx → α) : S32x128.Idx → α := fun j =>
  (![a0, a1, a2, a3] : Fin 4 → S8x128.Idx → α) ⟨(j 0).val % 4, Nat.mod_lt _ (by omega)⟩
    (fun
      | ⟨0, _⟩ => ⟨(j 0).val / 4, by have h := (j 0).isLt; change (j 0).val < 32 at h; change _ < 8; omega⟩
      | ⟨1, _⟩ => ⟨(j 1).val, (j 1).isLt⟩
      | ⟨_ + 2, h⟩ => absurd h (Nat.not_lt.2 (Nat.le_add_left _ _)))

/-- A row outside the strided rectangle's residue class is outside the rectangle. -/
theorem not_mem_row (r : Rect S32x128) (y : S32x128.Idx) (p : ℕ) (ho : r.off 0 = p) (hp : p < 4) (hs : r.stride 0 = 4) (hne : (y 0).val % 4 ≠ p) :
    y ∉ r.set := by
  intro hy
  obtain ⟨x, -, h0⟩ := r.mem_set.1 hy 0
  apply hne
  rw [ho, hs] at h0
  omega

/-- The words read back after the four strided stores. -/
theorem readAt_words (M : Memref sig .tc .vmem S32x128 .i32) (f : M.view.ty.Contents (Elt F))
    (a0 a1 a2 a3 : S8x128.Idx → BitVec 32) (b : ∀ a, (![0, 0] : Fin 2 → ℕ) a + S32x128.size a ≤ S32x128.size a) (i0 i1 i2 i3 p0 p1 p2 p3) :
    View.readAt (Elt F) M.view (Rect.unit ![0, 0] S32x128.size b).toLoadRect
      (M.view.writes (Elt F) f
        [⟨{ off := ![3, 0], size := S8x128.size, stride := ![4, 1], inb := i3, stride_pos := p3 }, a3⟩,
         ⟨{ off := ![2, 0], size := S8x128.size, stride := ![4, 1], inb := i2, stride_pos := p2 }, a2⟩,
         ⟨{ off := ![1, 0], size := S8x128.size, stride := ![4, 1], inb := i1, stride_pos := p1 }, a1⟩,
         ⟨{ off := ![0, 0], size := S8x128.size, stride := ![4, 1], inb := i0, stride_pos := p0 }, a0⟩])
      = words a0 a1 a2 a3 := by
  funext j
  have hj : (j 0).val < 32 := (j 0).isLt
  have e : (Rect.unit (s := S32x128) ![0, 0] S32x128.size b).toLoadRect.idx j = j := by
    funext a; apply Fin.ext
    show (![0, 0] : Fin 2 → ℕ) a + 1 * (j a).val = (j a).val
    fin_cases a <;> simp
  show M.view.read (Elt F) _ ((Rect.unit (s := S32x128) ![0, 0] S32x128.size b).toLoadRect.idx j) = _
  rw [e]
  have h4 : (j 0).val % 4 = 0 ∨ (j 0).val % 4 = 1 ∨ (j 0).val % 4 = 2 ∨ (j 0).val % 4 = 3 := by omega
  rcases h4 with h | h | h | h
  · rw [View.read_writes_cons_miss _ _ _ _ _ (not_mem_row _ _ 3 rfl (by omega) rfl (by omega)),
      View.read_writes_cons_miss _ _ _ _ _ (not_mem_row _ _ 2 rfl (by omega) rfl (by omega)),
      View.read_writes_cons_miss _ _ _ _ _ (not_mem_row _ _ 1 rfl (by omega) rfl (by omega))]
    unfold words
    rw [show (⟨(j 0).val % 4, Nat.mod_lt _ (by omega)⟩ : Fin 4) = 0 from Fin.ext h]
    apply View.read_writes_cons_hit_of_coords
    intro a; fin_cases a
    · show (j 0).val = 0 + 4 * ((j 0).val / 4); omega
    · show (j 1).val = 0 + 1 * (j 1).val; omega
  · rw [View.read_writes_cons_miss _ _ _ _ _ (not_mem_row _ _ 3 rfl (by omega) rfl (by omega)),
      View.read_writes_cons_miss _ _ _ _ _ (not_mem_row _ _ 2 rfl (by omega) rfl (by omega))]
    unfold words
    rw [show (⟨(j 0).val % 4, Nat.mod_lt _ (by omega)⟩ : Fin 4) = 1 from Fin.ext h]
    apply View.read_writes_cons_hit_of_coords
    intro a; fin_cases a
    · show (j 0).val = 1 + 4 * ((j 0).val / 4); omega
    · show (j 1).val = 0 + 1 * (j 1).val; omega
  · rw [View.read_writes_cons_miss _ _ _ _ _ (not_mem_row _ _ 3 rfl (by omega) rfl (by omega))]
    unfold words
    rw [show (⟨(j 0).val % 4, Nat.mod_lt _ (by omega)⟩ : Fin 4) = 2 from Fin.ext h]
    apply View.read_writes_cons_hit_of_coords
    intro a; fin_cases a
    · show (j 0).val = 2 + 4 * ((j 0).val / 4); omega
    · show (j 1).val = 0 + 1 * (j 1).val; omega
  · unfold words
    rw [show (⟨(j 0).val % 4, Nat.mod_lt _ (by omega)⟩ : Fin 4) = 3 from Fin.ext h]
    apply View.read_writes_cons_hit_of_coords
    intro a; fin_cases a
    · show (j 0).val = 3 + 4 * ((j 0).val / 4); omega
    · show (j 1).val = 0 + 1 * (j 1).val; omega

section Trip

variable (c : Dev nD) (i : grid0.Coords) (arg1 : Memref sig .tc .smem S2 .i32) (harg1 : arg1.IsWhole) (arg2 : Memref sig .tc .vmem S128x29568 .bf16) (harg2 : arg2.IsWhole) (arg3 : Memref sig .tc .vmem S256x256 .bf16) (harg3 : arg3.IsWhole) (arg4 : Memref sig .tc .vmem S64x256 .bf16) (harg4 : arg4.IsWhole) (arg5 : Memref sig .tc .vmem S1x14784x128 .i8) (harg5 : arg5.IsWhole) (arg6 : Memref sig .tc .vmem S1x924x128 .i32) (harg6 : arg6.IsWhole) (arg7 : Memref sig .tc .vmem S256x128 .f32) (harg7 : arg7.IsWhole) (arg8 : Memref sig .tc .vmem S32x128 .i32) (harg8 : arg8.IsWhole) (v0 : Elt F .i32) (v1 : Elt F .i32)
    (f2 : Bf (F := F) c arg2) (f3 : Bf (F := F) c arg3) (f4 : Bf (F := F) c arg4)

/-- The third group of words, which the run leaves spelled out. -/
def third (k : Fin k0_t1_loop.trips) : S8x128.Idx → BitVec 32 :=
  k0_pay576 (trip.sl.r c arg2 arg4 f2 f4 k) (trip.sl.r_117 c i arg2 arg3 arg7 v0 v1 f2 f3 k)
        (trip.sl.r_123 c i arg2 arg3 arg7 v0 v1 f2 f3 k) (trip.sl.r_126 c i arg2 arg3 arg7 v0 v1 f2 f3 k)
        (trip.sl.r_130 c i arg2 arg3 arg7 v0 v1 f2 f3 k) (trip.sl.r_140 i v0 v1 k)
        (trip.sl.r_149 c i arg2 arg3 arg7 v0 v1 f2 f3 k) (trip.sl.r_154 c i arg2 arg3 arg7 v0 v1 f2 f3 k)
        (trip.sl.r_157 c i arg2 arg3 arg7 v0 v1 f2 f3 k) (trip.sl.r_158 c arg2 arg3 arg7 f2 f3 k)
        (trip.sl.r_159 c arg2 arg3 arg7 f2 f3 k) (trip.sl.r_160 c arg2 arg3 arg7 f2 f3 k)
        (trip.sl.r_161 c arg2 arg3 arg7 f2 f3 k) 1082130432#32

/-- The words one trip assembles. -/
def tripWords (k : Fin k0_t1_loop.trips) : S32x128.Idx → BitVec 32 :=
  words (trip.sl.v1598 c i arg2 arg3 arg4 arg7 v0 v1 f2 f3 f4 k)
    (trip.sl.v2980 c i arg2 arg3 arg4 arg7 v0 v1 f2 f3 f4 k)
    (third c i arg2 arg3 arg4 arg7 v0 v1 f2 f3 f4 k)
    (trip.sl.v5744 c i arg2 arg3 arg4 arg7 v0 v1 f2 f3 f4 k)

/-- What one trip stores in the codes' block. -/
def tripCodes (k : Fin k0_t1_loop.trips) : S1x128x128.Idx → BitVec 8 :=
  k0_pay2 (bitcast S128x128 8 (tripWords c i arg2 arg3 arg4 arg7 v0 v1 f2 f3 f4 k) (by decide))

/-- What one trip stores in the scales' block. -/
def tripScales (k : Fin k0_t1_loop.trips) : S1x8x128.Idx → BitVec 32 := trip.sl.v176 c arg2 arg3 arg7 f2 f3 k

theorem trip_pieces (f8 : Bf (F := F) c arg8) (k : Fin k0_t1_loop.trips) :
    (trip c i arg1 harg1 arg2 harg2 arg3 harg3 arg4 harg4 arg5 harg5 arg6 harg6 arg7 harg7 arg8 harg8 v0 v1 f2 f3 f4 f8 k).1
      = [⟨Rect.unit (k0_off3 k) S1x128x128.size (k0_off3_inb k), tripCodes c i arg2 arg3 arg4 arg7 v0 v1 f2 f3 f4 k⟩] := by
  show [(⟨Rect.unit (k0_off3 k) S1x128x128.size (k0_off3_inb k), k0_pay2 (trip.sl.v5746 c i arg2 arg3 arg4 arg7 arg8 v0 v1 f2 f3 f4 f8 k)⟩ : View.Piece (Elt F) S1x14784x128 .i8)] = _
  unfold tripCodes trip.sl.v5746 tripWords
  rw [show trip.sl.H8_4 c i arg2 arg3 arg4 arg7 v0 v1 f2 f3 f4 k = [_, _, _, _] from rfl]
  rw [readAt_words]
  rfl

/-! ## The loop -/

/-- What the codes' block holds at `y` after the trips that write it. -/
def codesAt (y : S1x14784x128.Idx) : BitVec 8 :=
  tripCodes c i arg2 arg3 arg4 arg7 v0 v1 f2 f3 f4 ⟨codeTrip (y 1).val, codeTrip_lt y⟩ (codePlace y)

/-- What the scales' block holds at `y` after the trips that write it. -/
def scalesAt (y : S1x924x128.Idx) : BitVec 32 :=
  tripScales c arg2 arg3 arg7 f2 f3 ⟨scaleTrip (y 1).val, scaleTrip_lt y⟩ (scalePlace y)

theorem codes_step (k : Fin k0_t1_loop.trips) (f : Bf (F := F) c arg5)
    (hf : ∀ y : S1x14784x128.Idx, codeTrip (y 1).val < k.val → arg5.view.read (Elt F) f y = codesAt c i arg2 arg3 arg4 arg7 v0 v1 f2 f3 f4 y)
    (y : S1x14784x128.Idx) (hy : codeTrip (y 1).val < k.val + 1) :
    arg5.view.read (Elt F) (arg5.view.writes (Elt F) f
      [⟨Rect.unit (k0_off3 k) S1x128x128.size (k0_off3_inb k), tripCodes c i arg2 arg3 arg4 arg7 v0 v1 f2 f3 f4 k⟩]) y
      = codesAt c i arg2 arg3 arg4 arg7 v0 v1 f2 f3 f4 y := by
  have hy1 : (y 1).val < 14784 := (y 1).isLt
  have hk : k.val < 116 := lt_of_lt_of_eq k.isLt trips_eq
  by_cases h : codeTrip (y 1).val = k.val
  · have hk' : (⟨codeTrip (y 1).val, codeTrip_lt y⟩ : Fin k0_t1_loop.trips) = k := Fin.ext h
    unfold codesAt
    rw [hk']
    apply View.read_writes_cons_hit_of_coords
    intro a
    rw [show (Rect.unit (s := S1x14784x128) (k0_off3 k) S1x128x128.size (k0_off3_inb k)).off a = (![0, min (128 * k.val) 14656, 0] : Fin 3 → ℕ) a from congrFun (off3_eq k) a]
    have h' := h
    unfold codeTrip at h'
    fin_cases a
    · have h0 : (y 0).val < 1 := (y 0).isLt
      show (y 0).val = 0 + 1 * 0; omega
    · show (y 1).val = min (128 * k.val) 14656 + 1 * ((y 1).val - min (128 * codeTrip (y 1).val) 14656)
      rw [h]; split at h' <;> omega
    · show (y 2).val = 0 + 1 * (y 2).val; omega
  · have hlt : codeTrip (y 1).val < k.val := by omega
    rw [View.read_writes_cons_miss_of_axis _ _ _ _ y 1 (min (128 * k.val) 14656) 128 (congrFun (off3_eq k) 1) rfl rfl
      (by unfold codeTrip at hlt; split at hlt <;> omega)]
    exact hf y hlt

theorem scales_step (k : Fin k0_t1_loop.trips) (f : Bf (F := F) c arg6)
    (hf : ∀ y : S1x924x128.Idx, scaleTrip (y 1).val < k.val → arg6.view.read (Elt F) f y = scalesAt c arg2 arg3 arg7 f2 f3 y)
    (y : S1x924x128.Idx) (hy : scaleTrip (y 1).val < k.val + 1) :
    arg6.view.read (Elt F) (arg6.view.writes (Elt F) f
      [⟨Rect.unit (k0_off2 k) S1x8x128.size (k0_off2_inb k), tripScales c arg2 arg3 arg7 f2 f3 k⟩]) y
      = scalesAt c arg2 arg3 arg7 f2 f3 y := by
  have hy1 : (y 1).val < 924 := (y 1).isLt
  have hk : k.val < 116 := lt_of_lt_of_eq k.isLt trips_eq
  by_cases h : scaleTrip (y 1).val = k.val
  · have hk' : (⟨scaleTrip (y 1).val, scaleTrip_lt y⟩ : Fin k0_t1_loop.trips) = k := Fin.ext h
    unfold scalesAt
    rw [hk']
    apply View.read_writes_cons_hit_of_coords
    intro a
    rw [show (Rect.unit (s := S1x924x128) (k0_off2 k) S1x8x128.size (k0_off2_inb k)).off a = (![0, min (8 * k.val) 916, 0] : Fin 3 → ℕ) a from congrFun (off2_eq k) a]
    have h' := h
    unfold scaleTrip at h'
    fin_cases a
    · have h0 : (y 0).val < 1 := (y 0).isLt
      show (y 0).val = 0 + 1 * 0; omega
    · show (y 1).val = min (8 * k.val) 916 + 1 * ((y 1).val - min (8 * scaleTrip (y 1).val) 916)
      rw [h]; split at h' <;> omega
    · show (y 2).val = 0 + 1 * (y 2).val; omega
  · have hlt : scaleTrip (y 1).val < k.val := by omega
    rw [View.read_writes_cons_miss_of_axis _ _ _ _ y 1 (min (8 * k.val) 916) 8 (congrFun (off2_eq k) 1) rfl rfl
      (by unfold scaleTrip at hlt; split at hlt <;> omega)]
    exact hf y hlt

set_option warn.classDefReducibility false in
/-- The loop's invariant: before trip `k`, the rows of both blocks last written by an earlier trip hold what they end holding. -/
@[sl_loop] def loopInv_k0_t1 :
    LoopInvTy_k0_t1 (F := F) Unit ℕ (UU nD τ) ℕ 𝒱₀ c none Set.univ i arg1 harg1 arg2 harg2 arg3 harg3 arg4 harg4 arg5 harg5 arg6 harg6 arg7 harg7 arg8 harg8 v0 v1 where
  inv k _ := iprop(pt c arg2 f2 ∗ pt c arg3 f3 ∗ pt c arg4 f4
    ∗ (∃ f5, ⌜∀ y : S1x14784x128.Idx, codeTrip (y 1).val < k → arg5.view.read (Elt F) f5 y = codesAt c i arg2 arg3 arg4 arg7 v0 v1 f2 f3 f4 y⌝ ∗ pt c arg5 f5)
    ∗ (∃ f6, ⌜∀ y : S1x924x128.Idx, scaleTrip (y 1).val < k → arg6.view.read (Elt F) f6 y = scalesAt c arg2 arg3 arg7 f2 f3 y⌝ ∗ pt c arg6 f6)
    ∗ (∃ f7, pt c arg7 f7) ∗ (∃ f8, pt c arg8 f8))
  step k _ := by
    iintro ⟨H2, H3, H4, ⟨%f5, %h5, H5⟩, ⟨%f6, %h6, H6⟩, ⟨%f7, H7⟩, ⟨%f8, H8⟩⟩
    iapply ((trip c i arg1 harg1 arg2 harg2 arg3 harg3 arg4 harg4 arg5 harg5 arg6 harg6 arg7 harg7 arg8 harg8 v0 v1 f2 f3 f4 f8 k).2.2 f5 f6 f7 _)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, H7, H8⟩
    isplitl [H2]; · iexact H2
    isplitl [H3]; · iexact H3
    isplitl [H4]; · iexact H4
    isplitl [H5]
    · iexists _; isplitr; swap; · iexact H5
      ipureintro
      rw [trip_pieces]
      exact codes_step c i arg2 arg3 arg4 arg5 arg7 v0 v1 f2 f3 f4 k f5 h5
    isplitl [H6]
    · iexists _; isplitr; swap; · iexact H6
      ipureintro
      exact scales_step c arg2 arg3 arg6 arg7 f2 f3 k f6 h6
    isplitl [H7]; · iexact H7
    iexact H8

/-! ## The body -/

/-- The two seed words as the body reads them. -/
def seedWord (f1 : Bf (F := F) c arg1) : Fin 2 → BitVec 32 := fun j => arg1.view.read (Elt F) f1 (fun | ⟨0, _⟩ => ⟨j.val, j.isLt⟩ | ⟨_ + 1, h⟩ => absurd h (Nat.not_lt.2 (Nat.le_add_left _ _)))

set_option maxHeartbeats 1000000 in
/-- The body's triple: both blocks end at what the trips leave, the inputs as they were. -/
theorem bodyRun (f1 : Bf (F := F) c arg1) (f5 : Bf (F := F) c arg5) (f6 : Bf (F := F) c arg6) (f7 : Bf (F := F) c arg7) (f8 : Bf (F := F) c arg8)
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
      ∗ (iprop(pt c arg1 f1 ∗ pt c arg2 f2 ∗ pt c arg3 f3 ∗ pt c arg4 f4
          ∗ (∃ f, ⌜arg5.view.read (Elt F) f = codesAt c i arg2 arg3 arg4 arg7 (seedWord c arg1 f1 0) (seedWord c arg1 f1 1) f2 f3 f4⌝ ∗ pt c arg5 f)
          ∗ (∃ f, ⌜arg6.view.read (Elt F) f = scalesAt c arg2 arg3 arg7 f2 f3⌝ ∗ pt c arg6 f)
          ∗ (∃ f, pt c arg7 f) ∗ (∃ f, pt c arg8 f)) -∗ Q ⟨⟩))
      ⊢ wp frame (wpE (defs₀ (F := F)) 𝒱₀ (c : Thread nD τ) none) Set.univ
          (cc0__body (F := F) i arg1 harg1 arg2 harg2 arg3 harg3 arg4 harg4 arg5 harg5 arg6 harg6 arg7 harg7 arg8 harg8) Q := by
  simp only [cc0__body_eq_skeleton]; unfold cc0__body_skel
  iintro ⟨H1, H2, H3, H4, H5, H6, H7, H8, Hk⟩
  sl_exec
  have seed0 : bodyRun.sl.r c arg1 f1 = seedWord c arg1 f1 0 := by
    unfold bodyRun.sl.r seedWord
    exact congrArg (arg1.view.read (Elt F) f1) (funext fun a => Fin.ext (by fin_cases a; rfl))
  have seed1 : bodyRun.sl.r_1 c arg1 f1 = seedWord c arg1 f1 1 := by
    unfold bodyRun.sl.r_1 seedWord
    exact congrArg (arg1.view.read (Elt F) f1) (funext fun a => Fin.ext (by fin_cases a; rfl))
  sl_step
  iapply Hk
  isplitl [H1]; · iexact H1
  isplitl [H2]; · iexact H2
  isplitl [H3]; · iexact H3
  isplitl [H4]; · iexact H4
  isplitl [H5]
  · iexists _; isplitr; swap; · iexact H5
    ipureintro
    funext y
    rw [← seed0, ← seed1]
    exact hL3 y (codeTrip_lt y)
  isplitl [H6]
  · iexists _; isplitr; swap; · iexact H6
    ipureintro
    funext y
    exact hL5 y (scaleTrip_lt y)
  isplitl [H7]; · iexists _; iexact H7
  iexists _; iexact H8

/-- A whole memref owned at `X` is its buffer held at the contents that read `X`. -/
theorem owns_whole_pt {sp : Space} {S : Shape} {e : EltTy} (M : Memref sig .tc sp S e) (h : M.IsWhole) (X : S.Idx → Elt F e) :
    (owns (c : Thread nD τ) M fullShare X : sProp 𝕄) ⊢ pt c M (h.unread X) := by
  have hs : M.view.set = Finset.univ := by
    obtain ⟨b, rfl, rfl, rfl, hm⟩ := h; cases hm; exact View.set_whole b
  unfold owns
  iintro ⟨%f, %hf, H⟩
  obtain rfl := h.eq_unread hf
  rw [hs]; iexact H

theorem pt_owns {sp : Space} {S : Shape} {e : EltTy} (M : Memref sig .tc sp S e) (h : M.IsWhole) (f : Bf (F := F) c M) (X : S.Idx → Elt F e)
    (hX : M.view.read (Elt F) f = X) : pt c M f ⊢ (owns (c : Thread nD τ) M fullShare X : sProp 𝕄) := by
  have hs : M.view.set = Finset.univ := by
    obtain ⟨b, rfl, rfl, rfl, hm⟩ := h; cases hm; exact View.set_whole b
  unfold owns
  iintro H
  iexists f; isplitr; · ipureintro; exact hX
  rw [hs]; iexact H

set_option maxHeartbeats 1000000 in
/-- `bodyRun` between memrefs owned at what they read. -/
theorem bodyOwns (X1 : S2.Idx → Elt F .i32) (X2 : S128x29568.Idx → Elt F .bf16) (X3 : S256x256.Idx → Elt F .bf16) (X4 : S64x256.Idx → Elt F .bf16) :
    iprop(owns (c : Thread nD τ) arg1 fullShare X1 ∗ owns (c : Thread nD τ) arg2 fullShare X2 ∗ owns (c : Thread nD τ) arg3 fullShare X3
        ∗ owns (c : Thread nD τ) arg4 fullShare X4 ∗ (∃ d, owns (c : Thread nD τ) arg5 fullShare d) ∗ (∃ d, owns (c : Thread nD τ) arg6 fullShare d)
        ∗ (∃ f, pt c arg7 f) ∗ (∃ f, pt c arg8 f))
      ⊢ wp frame (wpE (defs₀ (F := F)) 𝒱₀ (c : Thread nD τ) none) Set.univ
          (cc0__body (F := F) i arg1 harg1 arg2 harg2 arg3 harg3 arg4 harg4 arg5 harg5 arg6 harg6 arg7 harg7 arg8 harg8)
          (fun _ => iprop(owns (c : Thread nD τ) arg1 fullShare X1 ∗ owns (c : Thread nD τ) arg2 fullShare X2 ∗ owns (c : Thread nD τ) arg3 fullShare X3
            ∗ owns (c : Thread nD τ) arg4 fullShare X4
            ∗ owns (c : Thread nD τ) arg5 fullShare (codesAt c i arg2 arg3 arg4 arg7 (seedWord c arg1 (harg1.unread X1) 0) (seedWord c arg1 (harg1.unread X1) 1)
                (harg2.unread X2) (harg3.unread X3) (harg4.unread X4))
            ∗ owns (c : Thread nD τ) arg6 fullShare (scalesAt c arg2 arg3 arg7 (harg2.unread X2) (harg3.unread X3))
            ∗ (∃ f, pt c arg7 f) ∗ (∃ f, pt c arg8 f))) := by
  iintro ⟨H1, H2, H3, H4, ⟨%d5, H5⟩, ⟨%d6, H6⟩, ⟨%f7, H7⟩, ⟨%f8, H8⟩⟩
  ihave H1 := (owns_whole_pt c arg1 harg1 X1) $$ H1
  ihave H2 := (owns_whole_pt c arg2 harg2 X2) $$ H2
  ihave H3 := (owns_whole_pt c arg3 harg3 X3) $$ H3
  ihave H4 := (owns_whole_pt c arg4 harg4 X4) $$ H4
  ihave H5 := (owns_whole_pt c arg5 harg5 d5) $$ H5
  ihave H6 := (owns_whole_pt c arg6 harg6 d6) $$ H6
  iapply (bodyRun (F := F) c i arg1 harg1 arg2 harg2 arg3 harg3 arg4 harg4 arg5 harg5 arg6 harg6 arg7 harg7 arg8 harg8
    (harg2.unread X2) (harg3.unread X3) (harg4.unread X4) (harg1.unread X1) (harg5.unread d5) (harg6.unread d6) f7 f8 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, ⟨%g5, %e5, H5⟩, ⟨%g6, %e6, H6⟩, H7, H8⟩
  isplitl [H1]; · iapply (pt_owns c arg1 harg1 _ X1 (harg1.read_unread X1)); iexact H1
  isplitl [H2]; · iapply (pt_owns c arg2 harg2 _ X2 (harg2.read_unread X2)); iexact H2
  isplitl [H3]; · iapply (pt_owns c arg3 harg3 _ X3 (harg3.read_unread X3)); iexact H3
  isplitl [H4]; · iapply (pt_owns c arg4 harg4 _ X4 (harg4.read_unread X4)); iexact H4
  isplitl [H5]; · iapply (pt_owns c arg5 harg5 _ _ e5); iexact H5
  isplitl [H6]; · iapply (pt_owns c arg6 harg6 _ _ e6); iexact H6
  isplitl [H7]; · iexact H7
  iexact H8

end Trip

/-! ## The proof data and the launch -/

variable (m : (ℓ : Loc nD τ sig) → Buf (Elt F) ℓ) (ρ : Dev nD → PrngReg)

/-- The contents the body finds in an input's staging buffer at a point. -/
abbrev in1 (c : Dev nD) (t : Fin cfg0.N) : Bf (F := F) c (st0_0 t) := (hstage0_0 ((cfg0.slots t 0).cast nbuf0_0)).unread (iblk m c 0 t)
abbrev in2 (c : Dev nD) (t : Fin cfg0.N) : Bf (F := F) c (st0_1 t) := (hstage0_1 ((cfg0.slots t 1).cast nbuf0_1)).unread (iblk m c 1 t)
abbrev in3 (c : Dev nD) (t : Fin cfg0.N) : Bf (F := F) c (st0_2 t) := (hstage0_2 ((cfg0.slots t 2).cast nbuf0_2)).unread (iblk m c 2 t)
abbrev in4 (c : Dev nD) (t : Fin cfg0.N) : Bf (F := F) c (st0_3 t) := (hstage0_3 ((cfg0.slots t 3).cast nbuf0_3)).unread (iblk m c 3 t)

/-- What a point leaves in the codes' block and in the scales' block. -/
def pointCodes (c : Dev nD) (t : Fin cfg0.N) : S1x14784x128.Idx → BitVec 8 :=
  codesAt c (grid0.coords t) (st0_1 t) (st0_2 t) (st0_3 t) (Memref.whole cc0_scratch0)
    (seedWord c (st0_0 t) (in1 m c t) 0) (seedWord c (st0_0 t) (in1 m c t) 1) (in2 m c t) (in3 m c t) (in4 m c t)
def pointScales (c : Dev nD) (t : Fin cfg0.N) : S1x924x128.Idx → BitVec 32 :=
  scalesAt c (st0_1 t) (st0_2 t) (Memref.whole cc0_scratch0) (in2 m c t) (in3 m c t)

/-- The proof data on core `c`: the arrays as the region finds them; the inputs' blocks left in place, the outputs' at what
    the trips leave; the scratch at anything; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pointCodes m c t
    | ⟨5, _⟩ => pointScales m c t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d

/-- What the body is handed at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at a point. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [before_0, before_1, before_2, before_3]
  iintro ⟨⟨⟨H7, H8⟩, Hg⟩, HO, ⟨%d1, H1⟩, ⟨%d2, H2⟩, ⟨%d3, H3⟩, ⟨%d4, H4⟩, ⟨%d5, H5⟩, ⟨%d6, H6⟩⟩
  iapply (wp_wand_r Idealize.ShloMosaic.frame (wpE (defs₀ (F := F)) 𝒱₀ (c : Thread nD τ) none) Set.univ)
  isplitl [H1 H2 H3 H4 H5 H6 H7 H8]
  · iapply (bodyOwns (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (Memref.whole cc0_scratch0) (Memref.isWhole_whole _) (Memref.whole cc0_scratch1) (Memref.isWhole_whole _)
      (iblk m c 0 t) (iblk m c 1 t) (iblk m c 2 t) (iblk m c 3 t))
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iexact H8
  iintro %_ ⟨H1, H2, H3, H4, H5, H6, H7, H8⟩
  isplitl [H7 H8 Hg]
  · isplitl [H7 H8]
    · isplitl [H7]; · iexact H7
      iexact H8
    iexact Hg
  isplitl [HO]; · iexact HO
  isplitl [H1]; · iexact H1
  isplitl [H2]; · iexact H2
  isplitl [H3]; · iexact H3
  isplitl [H4]; · iexact H4
  isplitl [H5]; · iexact H5
  iexact H6

/-- The body table's row at a point is the body as the launch kit spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch: every weakly fair execution ends with every array at what the points wrote back, every other buffer at what the
    later host operations leave, and every semaphore counter at zero. -/
theorem run_quiescent :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl) (hQ' := fun _ h => h)

end Cert.Proof.K

end
-- ==== Proof.TripI.lean ====
/-
  One trip of the kernel's loop over the tiles of channels, run once at a symbolic trip number.
-/
module

public import proofs.«01_k».proof.Proof.Gen.KernelIdeal.Skeleton
public import proofs.«01_k».proof.Proof.Gen.KernelIdeal.Loops
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
abbrev UU (nD : Nat) (τ : Topo) : Type := UR sig nD τ
/-- No variants. -/
abbrev 𝒱₀ : Variants := Variants.none

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 400000 in
/-- What one trip writes: the pieces of the codes' block and of the scales' block, with the run of the trip. -/
def trip (c : Dev nD) (i : grid0.Coords) (arg1 : Memref sig .tc .smem S2 .i32) (harg1 : arg1.IsWhole) (arg2 : Memref sig .tc .vmem S128x29568 .bf16) (harg2 : arg2.IsWhole) (arg3 : Memref sig .tc .vmem S256x256 .bf16) (harg3 : arg3.IsWhole) (arg4 : Memref sig .tc .vmem S64x256 .bf16) (harg4 : arg4.IsWhole) (arg5 : Memref sig .tc .vmem S1x14784x128 .i8) (harg5 : arg5.IsWhole) (arg6 : Memref sig .tc .vmem S1x924x128 .i32) (harg6 : arg6.IsWhole) (arg7 : Memref sig .tc .vmem S256x128 .f32) (harg7 : arg7.IsWhole) (arg8 : Memref sig .tc .vmem S32x128 .i32) (harg8 : arg8.IsWhole) (v0 : Elt F .i32) (v1 : Elt F .i32)
    (f2 : Bf (F := F) c arg2) (f3 : Bf (F := F) c arg3) (f4 : Bf (F := F) c arg4) (f8 : Bf (F := F) c arg8) (k : Fin k0_t1_loop.trips) :
    Σ' (L5 : List (View.Piece (Elt F) S1x14784x128 .i8)), { L6 : List (View.Piece (Elt F) S1x924x128 .i32) //
      ∀ (f5 : Bf (F := F) c arg5) (f6 : Bf (F := F) c arg6) (f7 : Bf (F := F) c arg7)
        (Q : Unit → sProp 𝕄),
        iprop(pt c arg2 f2 ∗ pt c arg3 f3 ∗ pt c arg4 f4 ∗ pt c arg5 f5 ∗ pt c arg6 f6 ∗ pt c arg7 f7 ∗ pt c arg8 f8
          ∗ (iprop(pt c arg2 f2 ∗ pt c arg3 f3 ∗ pt c arg4 f4 ∗ pt c arg5 (arg5.view.writes (Elt F) f5 L5)
              ∗ pt c arg6 (arg6.view.writes (Elt F) f6 L6) ∗ (∃ f, pt c arg7 f) ∗ (∃ f, pt c arg8 f)) -∗ Q ⟨⟩))
        ⊢ wp frame (wpE (defs₀ (F := F)) 𝒱₀ (c : Thread nD τ) none) Set.univ
            (k0_t1_body (F := F) i arg1 harg1 arg2 harg2 arg3 harg3 arg4 harg4 arg5 harg5 arg6 harg6 arg7 harg7 arg8 harg8 v0 v1 k ()) Q } := by
  refine ⟨?_, ?_, fun f5 f6 f7 Q => ?run⟩
  case run =>
    unfold k0_t1_body
    iintro ⟨H2, H3, H4, H5, H6, H7, H8, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexists _; iexact H7
    iexists _; iexact H8

end Cert.Proof.KI

end
-- ==== Proof.BodyI.lean ====
/-
  The kernel's loop and its body: what one grid point leaves in the codes' block and in the scales' block, row by row.
-/
module

public import proofs.«01_k».proof.Proof.TripI
public import proofs.«01_k».proof.Proof.Gen.KernelIdeal.Frame
public import Idealize.ShloMosaic.Lib.Pipeline.Frame
public import Idealize.ShloMosaic.Lib.Pipeline.FrameBody
public import Idealize.ShloMosaic.Lib.Pipeline.FrameSuffix
public import Idealize.ShloMosaic.Lib.Writes
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Where a trip writes -/

theorem trips_eq : k0_t1_loop.trips = 116 := by decide +kernel
theorem off3_eq : ∀ k : Fin k0_t1_loop.trips, k0_off3 k = ![0, min (128 * k.val) 14656, 0] := by decide +kernel
theorem off2_eq : ∀ k : Fin k0_t1_loop.trips, k0_off2 k = ![0, min (8 * k.val) 916, 0] := by decide +kernel

/-- The trip that last writes row `r` of the codes' block, and of the scales' block. -/
def codeTrip (r : ℕ) : ℕ := if r < 14656 then r / 128 else 115
def scaleTrip (r : ℕ) : ℕ := if r < 916 then r / 8 else 115

theorem codeTrip_lt (y : S1x14784x128.Idx) : codeTrip (y 1).val < k0_t1_loop.trips := by
  rw [trips_eq]; unfold codeTrip; split <;> omega
theorem scaleTrip_lt (y : S1x924x128.Idx) : scaleTrip (y 1).val < k0_t1_loop.trips := by
  rw [trips_eq]; unfold scaleTrip; split <;> omega

/-- The place of a codes' row inside its trip's 128 rows, and of a scales' row inside its trip's 8. -/
def codePlace (y : S1x14784x128.Idx) : S1x128x128.Idx := fun
  | ⟨0, _⟩ => ⟨0, Nat.zero_lt_one⟩
  | ⟨1, _⟩ => ⟨(y 1).val - min (128 * codeTrip (y 1).val) 14656, by
      have h := (y 1).isLt
      change (y 1).val < 14784 at h
      change _ < 128
      unfold codeTrip; split <;> omega⟩
  | ⟨2, _⟩ => ⟨(y 2).val, (y 2).isLt⟩
  | ⟨_ + 3, h⟩ => absurd h (Nat.not_lt.2 (Nat.le_add_left _ _))
def scalePlace (y : S1x924x128.Idx) : S1x8x128.Idx := fun
  | ⟨0, _⟩ => ⟨0, Nat.zero_lt_one⟩
  | ⟨1, _⟩ => ⟨(y 1).val - min (8 * scaleTrip (y 1).val) 916, by
      have h := (y 1).isLt
      change (y 1).val < 924 at h
      change _ < 8
      unfold scaleTrip; split <;> omega⟩
  | ⟨2, _⟩ => ⟨(y 2).val, (y 2).isLt⟩
  | ⟨_ + 3, h⟩ => absurd h (Nat.not_lt.2 (Nat.le_add_left _ _))

/-! ## The words a trip assembles -/

/-- Four groups of eight rows interleaved: row `q` is row `q / 4` of group `q % 4`. -/
def words {α : Type} (a0 a1 a2 a3 : S8x128.Idx → α) : S32x128.Idx → α := fun j =>
  (![a0, a1, a2, a3] : Fin 4 → S8x128.Idx → α) ⟨(j 0).val % 4, Nat.mod_lt _ (by omega)⟩
    (fun
      | ⟨0, _⟩ => ⟨(j 0).val / 4, by have h := (j 0).isLt; change (j 0).val < 32 at h; change _ < 8; omega⟩
      | ⟨1, _⟩ => ⟨(j 1).val, (j 1).isLt⟩
      | ⟨_ + 2, h⟩ => absurd h (Nat.not_lt.2 (Nat.le_add_left _ _)))

/-- A row outside the strided rectangle's residue class is outside the rectangle. -/
theorem not_mem_row (r : Rect S32x128) (y : S32x128.Idx) (p : ℕ) (ho : r.off 0 = p) (hp : p < 4) (hs : r.stride 0 = 4) (hne : (y 0).val % 4 ≠ p) :
    y ∉ r.set := by
  intro hy
  obtain ⟨x, -, h0⟩ := r.mem_set.1 hy 0
  apply hne
  rw [ho, hs] at h0
  omega

/-- The words read back after the four strided stores. -/
theorem readAt_words (M : Memref sig .tc .vmem S32x128 .i32) (f : M.view.ty.Contents (Elt F))
    (a0 a1 a2 a3 : S8x128.Idx → BitVec 32) (b : ∀ a, (![0, 0] : Fin 2 → ℕ) a + S32x128.size a ≤ S32x128.size a) (i0 i1 i2 i3 p0 p1 p2 p3) :
    View.readAt (Elt F) M.view (Rect.unit ![0, 0] S32x128.size b).toLoadRect
      (M.view.writes (Elt F) f
        [⟨{ off := ![3, 0], size := S8x128.size, stride := ![4, 1], inb := i3, stride_pos := p3 }, a3⟩,
         ⟨{ off := ![2, 0], size := S8x128.size, stride := ![4, 1], inb := i2, stride_pos := p2 }, a2⟩,
         ⟨{ off := ![1, 0], size := S8x128.size, stride := ![4, 1], inb := i1, stride_pos := p1 }, a1⟩,
         ⟨{ off := ![0, 0], size := S8x128.size, stride := ![4, 1], inb := i0, stride_pos := p0 }, a0⟩])
      = words a0 a1 a2 a3 := by
  funext j
  have hj : (j 0).val < 32 := (j 0).isLt
  have e : (Rect.unit (s := S32x128) ![0, 0] S32x128.size b).toLoadRect.idx j = j := by
    funext a; apply Fin.ext
    show (![0, 0] : Fin 2 → ℕ) a + 1 * (j a).val = (j a).val
    fin_cases a <;> simp
  show M.view.read (Elt F) _ ((Rect.unit (s := S32x128) ![0, 0] S32x128.size b).toLoadRect.idx j) = _
  rw [e]
  have h4 : (j 0).val % 4 = 0 ∨ (j 0).val % 4 = 1 ∨ (j 0).val % 4 = 2 ∨ (j 0).val % 4 = 3 := by omega
  rcases h4 with h | h | h | h
  · rw [View.read_writes_cons_miss _ _ _ _ _ (not_mem_row _ _ 3 rfl (by omega) rfl (by omega)),
      View.read_writes_cons_miss _ _ _ _ _ (not_mem_row _ _ 2 rfl (by omega) rfl (by omega)),
      View.read_writes_cons_miss _ _ _ _ _ (not_mem_row _ _ 1 rfl (by omega) rfl (by omega))]
    unfold words
    rw [show (⟨(j 0).val % 4, Nat.mod_lt _ (by omega)⟩ : Fin 4) = 0 from Fin.ext h]
    apply View.read_writes_cons_hit_of_coords
    intro a; fin_cases a
    · show (j 0).val = 0 + 4 * ((j 0).val / 4); omega
    · show (j 1).val = 0 + 1 * (j 1).val; omega
  · rw [View.read_writes_cons_miss _ _ _ _ _ (not_mem_row _ _ 3 rfl (by omega) rfl (by omega)),
      View.read_writes_cons_miss _ _ _ _ _ (not_mem_row _ _ 2 rfl (by omega) rfl (by omega))]
    unfold words
    rw [show (⟨(j 0).val % 4, Nat.mod_lt _ (by omega)⟩ : Fin 4) = 1 from Fin.ext h]
    apply View.read_writes_cons_hit_of_coords
    intro a; fin_cases a
    · show (j 0).val = 1 + 4 * ((j 0).val / 4); omega
    · show (j 1).val = 0 + 1 * (j 1).val; omega
  · rw [View.read_writes_cons_miss _ _ _ _ _ (not_mem_row _ _ 3 rfl (by omega) rfl (by omega))]
    unfold words
    rw [show (⟨(j 0).val % 4, Nat.mod_lt _ (by omega)⟩ : Fin 4) = 2 from Fin.ext h]
    apply View.read_writes_cons_hit_of_coords
    intro a; fin_cases a
    · show (j 0).val = 2 + 4 * ((j 0).val / 4); omega
    · show (j 1).val = 0 + 1 * (j 1).val; omega
  · unfold words
    rw [show (⟨(j 0).val % 4, Nat.mod_lt _ (by omega)⟩ : Fin 4) = 3 from Fin.ext h]
    apply View.read_writes_cons_hit_of_coords
    intro a; fin_cases a
    · show (j 0).val = 3 + 4 * ((j 0).val / 4); omega
    · show (j 1).val = 0 + 1 * (j 1).val; omega

section Trip

variable (c : Dev nD) (i : grid0.Coords) (arg1 : Memref sig .tc .smem S2 .i32) (harg1 : arg1.IsWhole) (arg2 : Memref sig .tc .vmem S128x29568 .bf16) (harg2 : arg2.IsWhole) (arg3 : Memref sig .tc .vmem S256x256 .bf16) (harg3 : arg3.IsWhole) (arg4 : Memref sig .tc .vmem S64x256 .bf16) (harg4 : arg4.IsWhole) (arg5 : Memref sig .tc .vmem S1x14784x128 .i8) (harg5 : arg5.IsWhole) (arg6 : Memref sig .tc .vmem S1x924x128 .i32) (harg6 : arg6.IsWhole) (arg7 : Memref sig .tc .vmem S256x128 .f32) (harg7 : arg7.IsWhole) (arg8 : Memref sig .tc .vmem S32x128 .i32) (harg8 : arg8.IsWhole) (v0 : Elt F .i32) (v1 : Elt F .i32)
    (f2 : Bf (F := F) c arg2) (f3 : Bf (F := F) c arg3) (f4 : Bf (F := F) c arg4)

/-- The third group of words, which the run leaves spelled out. -/
def third (k : Fin k0_t1_loop.trips) : S8x128.Idx → BitVec 32 :=
  k0_pay576 (trip.sl.r c arg2 arg4 f2 f4 k) (trip.sl.r_117 c i arg2 arg3 arg7 v0 v1 f2 f3 k)
        (trip.sl.r_123 c i arg2 arg3 arg7 v0 v1 f2 f3 k) (trip.sl.r_126 c i arg2 arg3 arg7 v0 v1 f2 f3 k)
        (trip.sl.r_130 c i arg2 arg3 arg7 v0 v1 f2 f3 k) (trip.sl.r_140 i v0 v1 k)
        (trip.sl.r_149 c i arg2 arg3 arg7 v0 v1 f2 f3 k) (trip.sl.r_154 c i arg2 arg3 arg7 v0 v1 f2 f3 k)
        (trip.sl.r_157 c i arg2 arg3 arg7 v0 v1 f2 f3 k) (trip.sl.r_158 c arg2 arg3 arg7 f2 f3 k)
        (trip.sl.r_159 c arg2 arg3 arg7 f2 f3 k) (trip.sl.r_160 c arg2 arg3 arg7 f2 f3 k)
        (trip.sl.r_161 c arg2 arg3 arg7 f2 f3 k) 1082130432#32

/-- The words one trip assembles. -/
def tripWords (k : Fin k0_t1_loop.trips) : S32x128.Idx → BitVec 32 :=
  words (trip.sl.v1598 c i arg2 arg3 arg4 arg7 v0 v1 f2 f3 f4 k)
    (trip.sl.v2980 c i arg2 arg3 arg4 arg7 v0 v1 f2 f3 f4 k)
    (third c i arg2 arg3 arg4 arg7 v0 v1 f2 f3 f4 k)
    (trip.sl.v5744 c i arg2 arg3 arg4 arg7 v0 v1 f2 f3 f4 k)

/-- What one trip stores in the codes' block. -/
def tripCodes (k : Fin k0_t1_loop.trips) : S1x128x128.Idx → BitVec 8 :=
  k0_pay2 (bitcast S128x128 8 (tripWords c i arg2 arg3 arg4 arg7 v0 v1 f2 f3 f4 k) (by decide))

/-- What one trip stores in the scales' block. -/
def tripScales (k : Fin k0_t1_loop.trips) : S1x8x128.Idx → BitVec 32 := trip.sl.v176 c arg2 arg3 arg7 f2 f3 k

theorem trip_pieces (f8 : Bf (F := F) c arg8) (k : Fin k0_t1_loop.trips) :
    (trip c i arg1 harg1 arg2 harg2 arg3 harg3 arg4 harg4 arg5 harg5 arg6 harg6 arg7 harg7 arg8 harg8 v0 v1 f2 f3 f4 f8 k).1
      = [⟨Rect.unit (k0_off3 k) S1x128x128.size (k0_off3_inb k), tripCodes c i arg2 arg3 arg4 arg7 v0 v1 f2 f3 f4 k⟩] := by
  show [(⟨Rect.unit (k0_off3 k) S1x128x128.size (k0_off3_inb k), k0_pay2 (trip.sl.v5746 c i arg2 arg3 arg4 arg7 arg8 v0 v1 f2 f3 f4 f8 k)⟩ : View.Piece (Elt F) S1x14784x128 .i8)] = _
  unfold tripCodes trip.sl.v5746 tripWords
  rw [show trip.sl.H8_4 c i arg2 arg3 arg4 arg7 v0 v1 f2 f3 f4 k = [_, _, _, _] from rfl]
  rw [readAt_words]
  rfl

/-! ## The loop -/

/-- What the codes' block holds at `y` after the trips that write it. -/
def codesAt (y : S1x14784x128.Idx) : BitVec 8 :=
  tripCodes c i arg2 arg3 arg4 arg7 v0 v1 f2 f3 f4 ⟨codeTrip (y 1).val, codeTrip_lt y⟩ (codePlace y)

/-- What the scales' block holds at `y` after the trips that write it. -/
def scalesAt (y : S1x924x128.Idx) : BitVec 32 :=
  tripScales c arg2 arg3 arg7 f2 f3 ⟨scaleTrip (y 1).val, scaleTrip_lt y⟩ (scalePlace y)

theorem codes_step (k : Fin k0_t1_loop.trips) (f : Bf (F := F) c arg5)
    (hf : ∀ y : S1x14784x128.Idx, codeTrip (y 1).val < k.val → arg5.view.read (Elt F) f y = codesAt c i arg2 arg3 arg4 arg7 v0 v1 f2 f3 f4 y)
    (y : S1x14784x128.Idx) (hy : codeTrip (y 1).val < k.val + 1) :
    arg5.view.read (Elt F) (arg5.view.writes (Elt F) f
      [⟨Rect.unit (k0_off3 k) S1x128x128.size (k0_off3_inb k), tripCodes c i arg2 arg3 arg4 arg7 v0 v1 f2 f3 f4 k⟩]) y
      = codesAt c i arg2 arg3 arg4 arg7 v0 v1 f2 f3 f4 y := by
  have hy1 : (y 1).val < 14784 := (y 1).isLt
  have hk : k.val < 116 := lt_of_lt_of_eq k.isLt trips_eq
  by_cases h : codeTrip (y 1).val = k.val
  · have hk' : (⟨codeTrip (y 1).val, codeTrip_lt y⟩ : Fin k0_t1_loop.trips) = k := Fin.ext h
    unfold codesAt
    rw [hk']
    apply View.read_writes_cons_hit_of_coords
    intro a
    rw [show (Rect.unit (s := S1x14784x128) (k0_off3 k) S1x128x128.size (k0_off3_inb k)).off a = (![0, min (128 * k.val) 14656, 0] : Fin 3 → ℕ) a from congrFun (off3_eq k) a]
    have h' := h
    unfold codeTrip at h'
    fin_cases a
    · have h0 : (y 0).val < 1 := (y 0).isLt
      show (y 0).val = 0 + 1 * 0; omega
    · show (y 1).val = min (128 * k.val) 14656 + 1 * ((y 1).val - min (128 * codeTrip (y 1).val) 14656)
      rw [h]; split at h' <;> omega
    · show (y 2).val = 0 + 1 * (y 2).val; omega
  · have hlt : codeTrip (y 1).val < k.val := by omega
    rw [View.read_writes_cons_miss_of_axis _ _ _ _ y 1 (min (128 * k.val) 14656) 128 (congrFun (off3_eq k) 1) rfl rfl
      (by unfold codeTrip at hlt; split at hlt <;> omega)]
    exact hf y hlt

theorem scales_step (k : Fin k0_t1_loop.trips) (f : Bf (F := F) c arg6)
    (hf : ∀ y : S1x924x128.Idx, scaleTrip (y 1).val < k.val → arg6.view.read (Elt F) f y = scalesAt c arg2 arg3 arg7 f2 f3 y)
    (y : S1x924x128.Idx) (hy : scaleTrip (y 1).val < k.val + 1) :
    arg6.view.read (Elt F) (arg6.view.writes (Elt F) f
      [⟨Rect.unit (k0_off2 k) S1x8x128.size (k0_off2_inb k), tripScales c arg2 arg3 arg7 f2 f3 k⟩]) y
      = scalesAt c arg2 arg3 arg7 f2 f3 y := by
  have hy1 : (y 1).val < 924 := (y 1).isLt
  have hk : k.val < 116 := lt_of_lt_of_eq k.isLt trips_eq
  by_cases h : scaleTrip (y 1).val = k.val
  · have hk' : (⟨scaleTrip (y 1).val, scaleTrip_lt y⟩ : Fin k0_t1_loop.trips) = k := Fin.ext h
    unfold scalesAt
    rw [hk']
    apply View.read_writes_cons_hit_of_coords
    intro a
    rw [show (Rect.unit (s := S1x924x128) (k0_off2 k) S1x8x128.size (k0_off2_inb k)).off a = (![0, min (8 * k.val) 916, 0] : Fin 3 → ℕ) a from congrFun (off2_eq k) a]
    have h' := h
    unfold scaleTrip at h'
    fin_cases a
    · have h0 : (y 0).val < 1 := (y 0).isLt
      show (y 0).val = 0 + 1 * 0; omega
    · show (y 1).val = min (8 * k.val) 916 + 1 * ((y 1).val - min (8 * scaleTrip (y 1).val) 916)
      rw [h]; split at h' <;> omega
    · show (y 2).val = 0 + 1 * (y 2).val; omega
  · have hlt : scaleTrip (y 1).val < k.val := by omega
    rw [View.read_writes_cons_miss_of_axis _ _ _ _ y 1 (min (8 * k.val) 916) 8 (congrFun (off2_eq k) 1) rfl rfl
      (by unfold scaleTrip at hlt; split at hlt <;> omega)]
    exact hf y hlt

set_option warn.classDefReducibility false in
/-- The loop's invariant: before trip `k`, the rows of both blocks last written by an earlier trip hold what they end holding. -/
@[sl_loop] def loopInv_k0_t1 :
    LoopInvTy_k0_t1 (F := F) Unit ℕ (UU nD τ) ℕ 𝒱₀ c none Set.univ i arg1 harg1 arg2 harg2 arg3 harg3 arg4 harg4 arg5 harg5 arg6 harg6 arg7 harg7 arg8 harg8 v0 v1 where
  inv k _ := iprop(pt c arg2 f2 ∗ pt c arg3 f3 ∗ pt c arg4 f4
    ∗ (∃ f5, ⌜∀ y : S1x14784x128.Idx, codeTrip (y 1).val < k → arg5.view.read (Elt F) f5 y = codesAt c i arg2 arg3 arg4 arg7 v0 v1 f2 f3 f4 y⌝ ∗ pt c arg5 f5)
    ∗ (∃ f6, ⌜∀ y : S1x924x128.Idx, scaleTrip (y 1).val < k → arg6.view.read (Elt F) f6 y = scalesAt c arg2 arg3 arg7 f2 f3 y⌝ ∗ pt c arg6 f6)
    ∗ (∃ f7, pt c arg7 f7) ∗ (∃ f8, pt c arg8 f8))
  step k _ := by
    iintro ⟨H2, H3, H4, ⟨%f5, %h5, H5⟩, ⟨%f6, %h6, H6⟩, ⟨%f7, H7⟩, ⟨%f8, H8⟩⟩
    iapply ((trip c i arg1 harg1 arg2 harg2 arg3 harg3 arg4 harg4 arg5 harg5 arg6 harg6 arg7 harg7 arg8 harg8 v0 v1 f2 f3 f4 f8 k).2.2 f5 f6 f7 _)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, H7, H8⟩
    isplitl [H2]; · iexact H2
    isplitl [H3]; · iexact H3
    isplitl [H4]; · iexact H4
    isplitl [H5]
    · iexists _; isplitr; swap; · iexact H5
      ipureintro
      rw [trip_pieces]
      exact codes_step c i arg2 arg3 arg4 arg5 arg7 v0 v1 f2 f3 f4 k f5 h5
    isplitl [H6]
    · iexists _; isplitr; swap; · iexact H6
      ipureintro
      exact scales_step c arg2 arg3 arg6 arg7 f2 f3 k f6 h6
    isplitl [H7]; · iexact H7
    iexact H8

/-! ## The body -/

/-- The two seed words as the body reads them. -/
def seedWord (f1 : Bf (F := F) c arg1) : Fin 2 → BitVec 32 := fun j => arg1.view.read (Elt F) f1 (fun | ⟨0, _⟩ => ⟨j.val, j.isLt⟩ | ⟨_ + 1, h⟩ => absurd h (Nat.not_lt.2 (Nat.le_add_left _ _)))

set_option maxHeartbeats 1000000 in
/-- The body's triple: both blocks end at what the trips leave, the inputs as they were. -/
theorem bodyRun (f1 : Bf (F := F) c arg1) (f5 : Bf (F := F) c arg5) (f6 : Bf (F := F) c arg6) (f7 : Bf (F := F) c arg7) (f8 : Bf (F := F) c arg8)
    (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
      ∗ (iprop(pt c arg1 f1 ∗ pt c arg2 f2 ∗ pt c arg3 f3 ∗ pt c arg4 f4
          ∗ (∃ f, ⌜arg5.view.read (Elt F) f = codesAt c i arg2 arg3 arg4 arg7 (seedWord c arg1 f1 0) (seedWord c arg1 f1 1) f2 f3 f4⌝ ∗ pt c arg5 f)
          ∗ (∃ f, ⌜arg6.view.read (Elt F) f = scalesAt c arg2 arg3 arg7 f2 f3⌝ ∗ pt c arg6 f)
          ∗ (∃ f, pt c arg7 f) ∗ (∃ f, pt c arg8 f)) -∗ Q ⟨⟩))
      ⊢ wp frame (wpE (defs₀ (F := F)) 𝒱₀ (c : Thread nD τ) none) Set.univ
          (cc0__body (F := F) i arg1 harg1 arg2 harg2 arg3 harg3 arg4 harg4 arg5 harg5 arg6 harg6 arg7 harg7 arg8 harg8) Q := by
  simp only [cc0__body_eq_skeleton]; unfold cc0__body_skel
  iintro ⟨H1, H2, H3, H4, H5, H6, H7, H8, Hk⟩
  sl_exec
  have seed0 : bodyRun.sl.r c arg1 f1 = seedWord c arg1 f1 0 := by
    unfold bodyRun.sl.r seedWord
    exact congrArg (arg1.view.read (Elt F) f1) (funext fun a => Fin.ext (by fin_cases a; rfl))
  have seed1 : bodyRun.sl.r_1 c arg1 f1 = seedWord c arg1 f1 1 := by
    unfold bodyRun.sl.r_1 seedWord
    exact congrArg (arg1.view.read (Elt F) f1) (funext fun a => Fin.ext (by fin_cases a; rfl))
  sl_step
  iapply Hk
  isplitl [H1]; · iexact H1
  isplitl [H2]; · iexact H2
  isplitl [H3]; · iexact H3
  isplitl [H4]; · iexact H4
  isplitl [H5]
  · iexists _; isplitr; swap; · iexact H5
    ipureintro
    funext y
    rw [← seed0, ← seed1]
    exact hL3 y (codeTrip_lt y)
  isplitl [H6]
  · iexists _; isplitr; swap; · iexact H6
    ipureintro
    funext y
    exact hL5 y (scaleTrip_lt y)
  isplitl [H7]; · iexists _; iexact H7
  iexists _; iexact H8

/-- A whole memref owned at `X` is its buffer held at the contents that read `X`. -/
theorem owns_whole_pt {sp : Space} {S : Shape} {e : EltTy} (M : Memref sig .tc sp S e) (h : M.IsWhole) (X : S.Idx → Elt F e) :
    (owns (c : Thread nD τ) M fullShare X : sProp 𝕄) ⊢ pt c M (h.unread X) := by
  have hs : M.view.set = Finset.univ := by
    obtain ⟨b, rfl, rfl, rfl, hm⟩ := h; cases hm; exact View.set_whole b
  unfold owns
  iintro ⟨%f, %hf, H⟩
  obtain rfl := h.eq_unread hf
  rw [hs]; iexact H

theorem pt_owns {sp : Space} {S : Shape} {e : EltTy} (M : Memref sig .tc sp S e) (h : M.IsWhole) (f : Bf (F := F) c M) (X : S.Idx → Elt F e)
    (hX : M.view.read (Elt F) f = X) : pt c M f ⊢ (owns (c : Thread nD τ) M fullShare X : sProp 𝕄) := by
  have hs : M.view.set = Finset.univ := by
    obtain ⟨b, rfl, rfl, rfl, hm⟩ := h; cases hm; exact View.set_whole b
  unfold owns
  iintro H
  iexists f; isplitr; · ipureintro; exact hX
  rw [hs]; iexact H

set_option maxHeartbeats 1000000 in
/-- `bodyRun` between memrefs owned at what they read. -/
theorem bodyOwns (X1 : S2.Idx → Elt F .i32) (X2 : S128x29568.Idx → Elt F .bf16) (X3 : S256x256.Idx → Elt F .bf16) (X4 : S64x256.Idx → Elt F .bf16) :
    iprop(owns (c : Thread nD τ) arg1 fullShare X1 ∗ owns (c : Thread nD τ) arg2 fullShare X2 ∗ owns (c : Thread nD τ) arg3 fullShare X3
        ∗ owns (c : Thread nD τ) arg4 fullShare X4 ∗ (∃ d, owns (c : Thread nD τ) arg5 fullShare d) ∗ (∃ d, owns (c : Thread nD τ) arg6 fullShare d)
        ∗ (∃ f, pt c arg7 f) ∗ (∃ f, pt c arg8 f))
      ⊢ wp frame (wpE (defs₀ (F := F)) 𝒱₀ (c : Thread nD τ) none) Set.univ
          (cc0__body (F := F) i arg1 harg1 arg2 harg2 arg3 harg3 arg4 harg4 arg5 harg5 arg6 harg6 arg7 harg7 arg8 harg8)
          (fun _ => iprop(owns (c : Thread nD τ) arg1 fullShare X1 ∗ owns (c : Thread nD τ) arg2 fullShare X2 ∗ owns (c : Thread nD τ) arg3 fullShare X3
            ∗ owns (c : Thread nD τ) arg4 fullShare X4
            ∗ owns (c : Thread nD τ) arg5 fullShare (codesAt c i arg2 arg3 arg4 arg7 (seedWord c arg1 (harg1.unread X1) 0) (seedWord c arg1 (harg1.unread X1) 1)
                (harg2.unread X2) (harg3.unread X3) (harg4.unread X4))
            ∗ owns (c : Thread nD τ) arg6 fullShare (scalesAt c arg2 arg3 arg7 (harg2.unread X2) (harg3.unread X3))
            ∗ (∃ f, pt c arg7 f) ∗ (∃ f, pt c arg8 f))) := by
  iintro ⟨H1, H2, H3, H4, ⟨%d5, H5⟩, ⟨%d6, H6⟩, ⟨%f7, H7⟩, ⟨%f8, H8⟩⟩
  ihave H1 := (owns_whole_pt c arg1 harg1 X1) $$ H1
  ihave H2 := (owns_whole_pt c arg2 harg2 X2) $$ H2
  ihave H3 := (owns_whole_pt c arg3 harg3 X3) $$ H3
  ihave H4 := (owns_whole_pt c arg4 harg4 X4) $$ H4
  ihave H5 := (owns_whole_pt c arg5 harg5 d5) $$ H5
  ihave H6 := (owns_whole_pt c arg6 harg6 d6) $$ H6
  iapply (bodyRun (F := F) c i arg1 harg1 arg2 harg2 arg3 harg3 arg4 harg4 arg5 harg5 arg6 harg6 arg7 harg7 arg8 harg8
    (harg2.unread X2) (harg3.unread X3) (harg4.unread X4) (harg1.unread X1) (harg5.unread d5) (harg6.unread d6) f7 f8 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, ⟨%g5, %e5, H5⟩, ⟨%g6, %e6, H6⟩, H7, H8⟩
  isplitl [H1]; · iapply (pt_owns c arg1 harg1 _ X1 (harg1.read_unread X1)); iexact H1
  isplitl [H2]; · iapply (pt_owns c arg2 harg2 _ X2 (harg2.read_unread X2)); iexact H2
  isplitl [H3]; · iapply (pt_owns c arg3 harg3 _ X3 (harg3.read_unread X3)); iexact H3
  isplitl [H4]; · iapply (pt_owns c arg4 harg4 _ X4 (harg4.read_unread X4)); iexact H4
  isplitl [H5]; · iapply (pt_owns c arg5 harg5 _ _ e5); iexact H5
  isplitl [H6]; · iapply (pt_owns c arg6 harg6 _ _ e6); iexact H6
  isplitl [H7]; · iexact H7
  iexact H8

end Trip

/-! ## The proof data and the launch -/

variable (m : (ℓ : Loc nD τ sig) → Buf (Elt F) ℓ) (ρ : Dev nD → PrngReg)

/-- The contents the body finds in an input's staging buffer at a point. -/
abbrev in1 (c : Dev nD) (t : Fin cfg0.N) : Bf (F := F) c (st0_0 t) := (hstage0_0 ((cfg0.slots t 0).cast nbuf0_0)).unread (iblk m c 0 t)
abbrev in2 (c : Dev nD) (t : Fin cfg0.N) : Bf (F := F) c (st0_1 t) := (hstage0_1 ((cfg0.slots t 1).cast nbuf0_1)).unread (iblk m c 1 t)
abbrev in3 (c : Dev nD) (t : Fin cfg0.N) : Bf (F := F) c (st0_2 t) := (hstage0_2 ((cfg0.slots t 2).cast nbuf0_2)).unread (iblk m c 2 t)
abbrev in4 (c : Dev nD) (t : Fin cfg0.N) : Bf (F := F) c (st0_3 t) := (hstage0_3 ((cfg0.slots t 3).cast nbuf0_3)).unread (iblk m c 3 t)

/-- What a point leaves in the codes' block and in the scales' block. -/
def pointCodes (c : Dev nD) (t : Fin cfg0.N) : S1x14784x128.Idx → BitVec 8 :=
  codesAt c (grid0.coords t) (st0_1 t) (st0_2 t) (st0_3 t) (Memref.whole cc0_scratch0)
    (seedWord c (st0_0 t) (in1 m c t) 0) (seedWord c (st0_0 t) (in1 m c t) 1) (in2 m c t) (in3 m c t) (in4 m c t)
def pointScales (c : Dev nD) (t : Fin cfg0.N) : S1x924x128.Idx → BitVec 32 :=
  scalesAt c (st0_1 t) (st0_2 t) (Memref.whole cc0_scratch0) (in2 m c t) (in3 m c t)

/-- The proof data on core `c`: the arrays as the region finds them; the inputs' blocks left in place, the outputs' at what
    the trips leave; the scratch at anything; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pointCodes m c t
    | ⟨5, _⟩ => pointScales m c t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d

/-- What the body is handed at a point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at a point. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [before_0, before_1, before_2, before_3]
  iintro ⟨⟨⟨H7, H8⟩, Hg⟩, HO, ⟨%d1, H1⟩, ⟨%d2, H2⟩, ⟨%d3, H3⟩, ⟨%d4, H4⟩, ⟨%d5, H5⟩, ⟨%d6, H6⟩⟩
  iapply (wp_wand_r Idealize.ShloMosaic.frame (wpE (defs₀ (F := F)) 𝒱₀ (c : Thread nD τ) none) Set.univ)
  isplitl [H1 H2 H3 H4 H5 H6 H7 H8]
  · iapply (bodyOwns (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (Memref.whole cc0_scratch0) (Memref.isWhole_whole _) (Memref.whole cc0_scratch1) (Memref.isWhole_whole _)
      (iblk m c 0 t) (iblk m c 1 t) (iblk m c 2 t) (iblk m c 3 t))
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iexact H8
  iintro %_ ⟨H1, H2, H3, H4, H5, H6, H7, H8⟩
  isplitl [H7 H8 Hg]
  · isplitl [H7 H8]
    · isplitl [H7]; · iexact H7
      iexact H8
    iexact Hg
  isplitl [HO]; · iexact HO
  isplitl [H1]; · iexact H1
  isplitl [H2]; · iexact H2
  isplitl [H3]; · iexact H3
  isplitl [H4]; · iexact H4
  isplitl [H5]; · iexact H5
  iexact H6

/-- The body table's row at a point is the body as the launch kit spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch: every weakly fair execution ends with every array at what the points wrote back, every other buffer at what the
    later host operations leave, and every semaphore counter at zero. -/
theorem run_quiescent :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl) (hQ' := fun _ h => h)

end Cert.Proof.KI

end
-- ==== Proof.Mirror.lean ====
/-
  What one trip computes, written once: the generator's rounds, one code of four bits, one word of eight codes.
-/
module

public import proofs.«01_k».proof.Proof.BodyI
public import Idealize.ShloMosaic.Lib.Pointwise
public import Idealize.ShloMosaic.Lib.Pipeline.ReadBack

@[expose] public section

noncomputable section

namespace Cert.Proof.KI

open Cert.KernelIdeal Cert.KernelIdeal.Gen
open Idealize.ShloMosaic

variable {F : FTy → Type} [FloatOps F]

/-- A tile of 32-bit words. -/
abbrev W32 := IVec S8x128 32
/-- A tile of reals. -/
abbrev R32 (F : FTy → Type) := FVec F S8x128 .f32

/-- One word everywhere. -/
def sp (n : BitVec 32) : W32 := broadcast S8x128 n
/-- One float everywhere. -/
def spf (n : BitVec 32) : R32 F := broadcast S8x128 (Scalar.ofBits .f32 n)

def lowHalf (b : W32) : W32 := andi b (sp 65535#32)
def highHalf (b : W32) : W32 := shrui b (sp 16#32)
/-- The high word of the product by the first multiplier. -/
def hi0 (b : W32) : W32 :=
  addi (muli (highHalf b) (sp 53841#32))
    (shrui (addi (addi (muli (lowHalf b) (sp 53841#32)) (muli (highHalf b) (sp 8019#32)))
      (shrui (muli (lowHalf b) (sp 8019#32)) (sp 16#32))) (sp 16#32))
def lo0 (b : W32) : W32 := muli b (sp 3528531795#32)
/-- The high word of the product by the second multiplier. -/
def hi1 (b : W32) : W32 :=
  addi (muli (highHalf b) (sp 52638#32))
    (shrui (addi (muli (lowHalf b) (sp 26319#32))
      (shrui (addi (muli (highHalf b) (sp 36183#32)) (shrui (muli (lowHalf b) (sp 36183#32)) (sp 16#32))) (sp 1#32))) (sp 15#32))
def lo1 (b : W32) : W32 := muli b (sp 3449720151#32)

/-- The high word of the first key's product by the first multiplier. -/
def shi0 (b : BitVec 32) : BitVec 32 :=
  Scalar.addi (Scalar.muli (Scalar.shrui b 16#32) 53841#32)
    (Scalar.shrui (Scalar.addi (Scalar.addi (Scalar.muli (Scalar.andi b 65535#32) 53841#32) (Scalar.muli (Scalar.shrui b 16#32) 8019#32))
      (Scalar.shrui (Scalar.muli (Scalar.andi b 65535#32) 8019#32) 16#32)) 16#32)

/-- The generator's state. -/
structure St where
  c0 : W32
  c1 : W32
  c2 : W32
  c3 : W32

def round (ka kb : BitVec 32) (s : St) : St :=
  ⟨xori (xori (hi1 s.c2) s.c1) (sp ka), lo1 s.c2, xori (xori (hi0 s.c0) s.c3) (sp kb), lo0 s.c0⟩

/-- The state after two rounds, of the counter's product and the two keys. -/
def two (h l : W32) (k0 k1 : BitVec 32) : St :=
  let c2 : W32 := xori h (sp k1)
  let d0 : W32 := xori (hi1 c2) (sp (Scalar.addi k0 2654435769#32))
  let d2 : W32 := xori l (sp (Scalar.xori (shi0 k0) (Scalar.addi k1 3144134277#32)))
  ⟨xori (xori (hi1 d2) (lo1 c2)) (sp (Scalar.addi k0 1013904242#32)), lo1 d2,
    xori (hi0 d0) (sp (Scalar.xori (Scalar.muli k0 3528531795#32) (Scalar.addi k1 1993301258#32))), lo0 d0⟩

/-- The state after the last round, but for the complements. -/
def ten (h l : W32) (k0 k1 : BitVec 32) : St :=
  round (Scalar.xori (Scalar.addi k0 2415085441#32) 4294967295#32) (Scalar.xori (Scalar.addi k1 2527404717#32) 4294967295#32)
  <| round (Scalar.addi k0 4055616968#32) (Scalar.addi k1 3678237736#32)
  <| round (Scalar.addi k0 1401181199#32) (Scalar.addi k1 534103459#32)
  <| round (Scalar.addi k0 3041712726#32) (Scalar.addi k1 1684936478#32)
  <| round (Scalar.addi k0 387276957#32) (Scalar.addi k1 2835769497#32)
  <| round (Scalar.addi k0 2027808484#32) (Scalar.addi k1 3986602516#32)
  <| round (Scalar.addi k0 3668340011#32) (Scalar.addi k1 842468239#32)
  <| two h l k0 k1

/-- The four complemented draws. -/
def lane (h l : W32) (k0 k1 : BitVec 32) : Fin 4 → W32
  | 0 => (ten h l k0 k1).c0
  | 1 => xori (ten h l k0 k1).c1 (constantI S8x128 32 4294967295#32)
  | 2 => (ten h l k0 k1).c2
  | 3 => xori (ten h l k0 k1).c3 (constantI S8x128 32 4294967295#32)

/-- The counter's product moved on by `lo + 2^32 * c`. -/
def lom (lb : W32) (lo : BitVec 32) : W32 := addi lb (sp lo)
def him (hb lb : W32) (lo c c' : BitVec 32) : W32 := addi hb (select (cmpi .ult (lom lb lo) lb) (sp c') (sp c))

/-- A value brought into [2, 24). -/
def lift (c ch g : R32 F) : R32 F := maximumf (mulf g c) (addf (mulf g ch) (spf 0x40000000#32))

def octave {α : Type} (b : R32 F) (v2 v4 v8 v16 : S8x128.Idx → α) : S8x128.Idx → α :=
  select (cmpf .olt b (spf 0x40800000#32)) v2 (select (cmpf .olt b (spf 0x41000000#32)) v4 (select (cmpf .olt b (spf 0x41800000#32)) v8 v16))

/-- The bits of a float in [2, 32). -/
def bitsOf (b : R32 F) : W32 :=
  addi (octave b (sp 1073741824#32) (sp 1082130432#32) (sp 1090519040#32) (sp 1098907648#32))
    (fptosi 32 (octave b (mulf (subf b (spf 0x40000000#32)) (spf 0x4A800000#32)) (mulf (subf b (spf 0x40800000#32)) (spf 0x4A000000#32))
      (mulf (subf b (spf 0x41000000#32)) (spf 0x49800000#32)) (mulf (subf b (spf 0x41800000#32)) (spf 0x49000000#32))))

/-- One code, above the constant 256. -/
def code (w : W32) (b : R32 F) : W32 := shrui (addi (bitsOf b) (shrui w (sp 10#32))) (sp 22#32)

/-- Two codes in one word's halves. -/
def pairUp (lo hi : W32) : W32 := ori lo (shli hi (sp 16#32))

/-- A word's eight codes and eight signs. -/
def wordOf (v : Fin 4 → W32) (v' : Fin 4 → W32) (s s' : W32) : W32 :=
  ori (subi (addi (shli (addi (shli (addi (shli (pairUp (v 3) (v' 3)) (sp 4#32)) (pairUp (v 2) (v' 2))) (sp 4#32)) (pairUp (v 1) (v' 1))) (sp 4#32))
      (pairUp (v 0) (v' 0))) (sp 286331136#32)) (pairUp s s')

attribute [local irreducible] addi muli andi ori xori shrui shli subi select cmpi broadcast Scalar.addi Scalar.muli Scalar.xori Scalar.andi Scalar.shrui constantI addf mulf subf maximumf fptosi cmpf extractStridedSlice View.readCov bitcastToFloat

section
variable (c : Dev nD) (i : grid0.Coords) (arg2 : Memref sig .tc .vmem S128x29568 .bf16) (arg3 : Memref sig .tc .vmem S256x256 .bf16) (arg4 : Memref sig .tc .vmem S64x256 .bf16) (arg7 : Memref sig .tc .vmem S256x128 .f32) (v0 v1 : BitVec 32)
    (f2 : Bf (F := F) c arg2) (f3 : Bf (F := F) c arg3) (f4 : Bf (F := F) c arg4) (k : Fin k0_t1_loop.trips)

theorem hi_base : trip.sl.v214 i k = hi0 (trip.sl.v195 i k) := rfl
theorem lo_base : trip.sl.v216 i k = lo0 (trip.sl.v195 i k) := rfl

/-- The low and the high word of `m` times the first multiplier. -/
def stepLo : Fin 8 → BitVec 32 := ![0#32, 3528531795#32, 2762096294#32, 1995660793#32, 1229225292#32, 462789791#32, 3991321586#32, 3224886085#32]
def stepHi : Fin 8 → BitVec 32 := ![0#32, 0#32, 1#32, 2#32, 3#32, 4#32, 4#32, 5#32]
def stepHi' : Fin 8 → BitVec 32 := ![1#32, 1#32, 2#32, 3#32, 4#32, 5#32, 5#32, 6#32]

/-- The four draws of run `m` of a trip. -/
def draws (n : W32) (m : Fin 8) (j : Fin 4) : W32 :=
  lane (him (hi0 n) (lo0 n) (stepLo m) (stepHi m) (stepHi' m)) (lom (lo0 n) (stepLo m)) v0 v1 j

/-- The tile of magnitudes, as one trip writes it. -/
def gTile : S256x128.Idx → F .f32 :=
  k0_pay4 (View.readAt (Elt F) arg2.view (Rect.unit (s := S128x29568) (k0_off1 k) S128x256.size (k0_off1_inb k)).toLoadRect f2)
    (View.readAt (Elt F) arg3.view (Rect.unit (s := S256x256) ![0, 0] S256x256.size inb_S256x256_S256x256_0_0).toLoadRect f3)

/-- Row `n` of eight of the tile of magnitudes. -/
def gRow (n : ℕ) (h : ∀ a, (![8 * n, 0] : Fin 2 → ℕ) a + S8x128.size a ≤ S256x128.size a) : R32 F :=
  arg7.view.readCov (trip.sl.H7_1 c arg2 arg3 f2 f3 k) (Rect.unit (s := S256x128) ![8 * n, 0] S8x128.size h).toLoadRect

theorem row_inb (n : Fin 32) : ∀ a, (![8 * n.val, 0] : Fin 2 → ℕ) a + S8x128.size a ≤ S256x128.size a := by
  intro a; have := n.isLt
  fin_cases a
  · show 8 * n.val + 8 ≤ 256; omega
  · show 0 + 128 ≤ 128; omega

/-- The codes of member `4 m + j` of the groups. -/
def codeAt (m : Fin 8) (j : Fin 4) : W32 :=
  code (draws v0 v1 (trip.sl.v195 i k) m j)
    (lift (trip.sl.r_6 c arg2 arg3 arg7 f2 f3 k) (trip.sl.r_7 c arg2 arg3 arg7 f2 f3 k) (gRow c arg2 arg3 arg7 f2 f3 k (4 * m.val + j.val) (row_inb ⟨4 * m.val + j.val, by omega⟩)))

theorem sign_slices (m : Fin 8) : S64x128.Slices ![8 * m.val, 0] S8x128 := by
  revert m; decide

/-- The signs of run `m`. -/
def signAt (m : Fin 8) : W32 :=
  extractStridedSlice S8x128 ![8 * m.val, 0] (trip.sl.r c arg2 arg4 f2 f4 k) (sign_slices m)

/-- Word `p` of the trip. -/
def wordAt (p : Fin 4) : W32 :=
  wordOf (codeAt c i arg2 arg3 arg7 v0 v1 f2 f3 k ⟨2 * p.val, by omega⟩) (codeAt c i arg2 arg3 arg7 v0 v1 f2 f3 k ⟨2 * p.val + 1, by omega⟩)
    (signAt c arg2 arg4 f2 f4 k ⟨2 * p.val, by omega⟩) (signAt c arg2 arg4 f2 f4 k ⟨2 * p.val + 1, by omega⟩)

theorem word_0 : trip.sl.v1598 c i arg2 arg3 arg4 arg7 v0 v1 f2 f3 f4 k = wordAt c i arg2 arg3 arg4 arg7 v0 v1 f2 f3 f4 k 0 := by
  show shapeCast S8x128 (wordAt c i arg2 arg3 arg4 arg7 v0 v1 f2 f3 f4 k 0) _ = _
  exact shapeCast_id _ _
theorem word_1 : trip.sl.v2980 c i arg2 arg3 arg4 arg7 v0 v1 f2 f3 f4 k = wordAt c i arg2 arg3 arg4 arg7 v0 v1 f2 f3 f4 k 1 := by
  show shapeCast S8x128 (wordAt c i arg2 arg3 arg4 arg7 v0 v1 f2 f3 f4 k 1) _ = _
  exact shapeCast_id _ _
theorem word_2 : third c i arg2 arg3 arg4 arg7 v0 v1 f2 f3 f4 k = wordAt c i arg2 arg3 arg4 arg7 v0 v1 f2 f3 f4 k 2 := by
  show shapeCast S8x128 (wordAt c i arg2 arg3 arg4 arg7 v0 v1 f2 f3 f4 k 2) _ = _
  exact shapeCast_id _ _
theorem word_3 : trip.sl.v5744 c i arg2 arg3 arg4 arg7 v0 v1 f2 f3 f4 k = wordAt c i arg2 arg3 arg4 arg7 v0 v1 f2 f3 f4 k 3 := by
  show shapeCast S8x128 (wordAt c i arg2 arg3 arg4 arg7 v0 v1 f2 f3 f4 k 3) _ = _
  exact shapeCast_id _ _

/-- The largest magnitude among the first `n + 1` members. -/
def amaxTo : (n : ℕ) → n < 32 → R32 F
  | 0, h => gRow c arg2 arg3 arg7 f2 f3 k 0 (row_inb ⟨0, h⟩)
  | n + 1, h => maximumf (amaxTo n (by omega)) (gRow c arg2 arg3 arg7 f2 f3 k (n + 1) (row_inb ⟨n + 1, h⟩))

def amaxV : R32 F := amaxTo c arg2 arg3 arg7 f2 f3 k 31 (by omega)

/-- One trial of a bit of the exponent. -/
def tryBit (v : R32 F) (bit : BitVec 32) (e : W32) : W32 :=
  select (cmpf .oge v (bitcastToFloat .f32 (ori e (sp bit)))) (ori e (sp bit)) e

/-- The exponent's bits. -/
def expBits (v : R32 F) : W32 :=
  tryBit v 8388608#32 <| tryBit v 16777216#32 <| tryBit v 33554432#32 <| tryBit v 67108864#32 <| tryBit v 134217728#32
    <| tryBit v 268435456#32 <| tryBit v 536870912#32 <| tryBit v 1073741824#32 (sp 0#32)

/-- The factor, and half of it. -/
def factor (v : R32 F) : R32 F := bitcastToFloat .f32 (subi (sp 2160066560#32) (andi (expBits v) (sp 2139095040#32)))
def halfFactor (v : R32 F) : R32 F := mulf (factor v) (spf 0x3F000000#32)

def scaleV (v : R32 F) : W32 :=
  select (cmpf .oeq v (spf 0x00000000#32)) (sp 127#32) (subi (shrui (expBits v) (sp 23#32)) (sp 2#32))

theorem amax_eq : trip.sl.r_3 c arg2 arg3 arg7 f2 f3 k = amaxV c arg2 arg3 arg7 f2 f3 k := rfl
theorem factor_eq : trip.sl.r_6 c arg2 arg3 arg7 f2 f3 k = factor (amaxV c arg2 arg3 arg7 f2 f3 k) := rfl
theorem halfFactor_eq : trip.sl.r_7 c arg2 arg3 arg7 f2 f3 k = halfFactor (amaxV c arg2 arg3 arg7 f2 f3 k) := rfl
theorem scales_eq : trip.sl.v155 c arg2 arg3 arg7 f2 f3 k = scaleV (amaxV c arg2 arg3 arg7 f2 f3 k) := rfl
theorem sign_eq : trip.sl.r c arg2 arg4 f2 f4 k = k0_pay5 (View.readAt (Elt F) arg2.view (Rect.unit (s := S128x29568) (k0_off1 k) S128x256.size (k0_off1_inb k)).toLoadRect f2)
    (View.readAt (Elt F) arg4.view (Rect.unit (s := S64x256) ![0, 0] S64x256.size inb_S64x256_S64x256_0_0).toLoadRect f4) := rfl

theorem gRow_eq (n h) : gRow c arg2 arg3 arg7 f2 f3 k n h = fun y => gTile c arg2 arg3 f2 f3 k ((Rect.unit (s := S256x128) ![8 * n, 0] S8x128.size h).toLoadRect.idx y) := by
  unfold gRow trip.sl.H7_1
  exact View.readCov_fill _ _ _ _ _ (by intro a; fin_cases a <;> rfl)

end

end Cert.Proof.KI

end
-- ==== Proof.Philox.lean ====
/-
  The generator on plain words: the high word of a product in the two shapes the programs compute it, the ten rounds, and
  the kernel's form of them, which yields the complements.
-/
module

public import Idealize.ShloMosaic.PureOps
public import Mathlib.Tactic.FinCases

@[expose] public section

namespace Cert.Proof.Philox

/-- The high word of a product. -/
def mulhi (a b : BitVec 32) : BitVec 32 := BitVec.ofNat 32 (a.toNat * b.toNat / 4294967296)

abbrev M0 : BitVec 32 := 3528531795#32
abbrev M1 : BitVec 32 := 3449720151#32
abbrev W0 : BitVec 32 := 2654435769#32
abbrev W1 : BitVec 32 := 3144134277#32

/-- Four words. -/
@[ext] structure St where
  c0 : BitVec 32
  c1 : BitVec 32
  c2 : BitVec 32
  c3 : BitVec 32

/-- One round under a pair of keys. -/
def round (k0 k1 : BitVec 32) (s : St) : St :=
  ⟨mulhi M1 s.c2 ^^^ s.c1 ^^^ k0, M1 * s.c2, mulhi M0 s.c0 ^^^ s.c3 ^^^ k1, M0 * s.c0⟩

/-- The first `r` rounds from the counter `n`. -/
def philox (n k0 k1 : BitVec 32) : ℕ → St
  | 0 => ⟨n, 0#32, 0#32, 0#32⟩
  | r + 1 => round (k0 + BitVec.ofNat 32 r * W0) (k1 + BitVec.ofNat 32 r * W1) (philox n k0 k1 r)

/-- One of the four words. -/
def St.word (s : St) (j : Fin 4) : BitVec 32 := match j with
  | 0 => s.c0
  | 1 => s.c1
  | 2 => s.c2
  | 3 => s.c3

def low (b : BitVec 32) : BitVec 32 := b &&& 65535#32
def high (b : BitVec 32) : BitVec 32 := b >>> 16

theorem toNat_low (b : BitVec 32) : (low b).toNat = b.toNat % 65536 := by
  unfold low
  rw [BitVec.toNat_and]
  exact Nat.and_two_pow_sub_one_eq_mod b.toNat 16

theorem toNat_high (b : BitVec 32) : (high b).toNat = b.toNat / 65536 := by
  unfold high
  rw [BitVec.toNat_ushiftRight, Nat.shiftRight_eq_div_pow]

theorem toNat_shr (b : BitVec 32) (k : ℕ) : (b >>> k).toNat = b.toNat / 2 ^ k := by
  rw [BitVec.toNat_ushiftRight, Nat.shiftRight_eq_div_pow]

/-- The kernel's high word of the product by the first multiplier. -/
def hi0 (b : BitVec 32) : BitVec 32 :=
  high b * 53841#32 + ((low b * 53841#32 + high b * 8019#32 + ((low b * 8019#32) >>> 16)) >>> 16)
/-- The kernel's high word of the product by the second multiplier. -/
def hi1 (b : BitVec 32) : BitVec 32 :=
  high b * 52638#32 + ((low b * 26319#32 + ((high b * 36183#32 + ((low b * 36183#32) >>> 16)) >>> 1)) >>> 15)

theorem hi0_eq (b : BitVec 32) : hi0 b = mulhi M0 b := by
  apply BitVec.eq_of_toNat_eq
  unfold hi0 mulhi
  obtain ⟨H, L, hn, hH, hL⟩ : ∃ H L, b.toNat = 65536 * H + L ∧ H < 65536 ∧ L < 65536 := by
    have hb := b.isLt
    exact ⟨b.toNat / 65536, b.toNat % 65536, by omega, by omega, by omega⟩
  have e1 : b.toNat / 65536 = H := by omega
  have e2 : b.toNat % 65536 = L := by omega
  simp only [BitVec.toNat_add, BitVec.toNat_mul, toNat_shr, toNat_low, toNat_high, BitVec.toNat_ofNat, Nat.reducePow, Nat.reduceMod, Nat.reduceDiv, e1, e2]
  rw [hn]
  clear e1 e2 hn
  rw [Nat.mod_eq_of_lt (show H * 53841 < 4294967296 by omega)]
  rw [Nat.mod_eq_of_lt (show L * 53841 < 4294967296 by omega)]
  rw [Nat.mod_eq_of_lt (show H * 8019 < 4294967296 by omega)]
  rw [Nat.mod_eq_of_lt (show L * 53841 + H * 8019 < 4294967296 by omega)]
  rw [Nat.mod_eq_of_lt (show L * 8019 < 4294967296 by omega)]
  rw [Nat.mod_eq_of_lt (show L * 53841 + H * 8019 + L * 8019 / 65536 < 4294967296 by omega)]
  rw [Nat.mod_eq_of_lt (show H * 53841 + (L * 53841 + H * 8019 + L * 8019 / 65536) / 65536 < 4294967296 by omega)]
  rw [Nat.mod_eq_of_lt (show 3528531795 * (65536 * H + L) / 4294967296 < 4294967296 by omega)]
  omega

theorem hi1_eq (b : BitVec 32) : hi1 b = mulhi M1 b := by
  apply BitVec.eq_of_toNat_eq
  unfold hi1 mulhi
  obtain ⟨H, L, hn, hH, hL⟩ : ∃ H L, b.toNat = 65536 * H + L ∧ H < 65536 ∧ L < 65536 := by
    have hb := b.isLt
    exact ⟨b.toNat / 65536, b.toNat % 65536, by omega, by omega, by omega⟩
  have e1 : b.toNat / 65536 = H := by omega
  have e2 : b.toNat % 65536 = L := by omega
  simp only [BitVec.toNat_add, BitVec.toNat_mul, toNat_shr, toNat_low, toNat_high, BitVec.toNat_ofNat, Nat.reducePow, Nat.reduceMod, Nat.reduceDiv, e1, e2]
  rw [hn]
  clear e1 e2 hn
  rw [Nat.mod_eq_of_lt (show H * 52638 < 4294967296 by omega)]
  rw [Nat.mod_eq_of_lt (show L * 26319 < 4294967296 by omega)]
  rw [Nat.mod_eq_of_lt (show H * 36183 < 4294967296 by omega)]
  rw [Nat.mod_eq_of_lt (show L * 36183 < 4294967296 by omega)]
  rw [Nat.mod_eq_of_lt (show H * 36183 + L * 36183 / 65536 < 4294967296 by omega)]
  rw [Nat.mod_eq_of_lt (show L * 26319 + (H * 36183 + L * 36183 / 65536) / 2 < 4294967296 by omega)]
  rw [Nat.mod_eq_of_lt (show H * 52638 + (L * 26319 + (H * 36183 + L * 36183 / 65536) / 2) / 32768 < 4294967296 by omega)]
  rw [Nat.mod_eq_of_lt (show 3449720151 * (65536 * H + L) / 4294967296 < 4294967296 by omega)]
  omega

/-- The plain high word of a product, by halves. -/
def hi (a b : BitVec 32) : BitVec 32 :=
  high a * high b + ((high a * low b + ((low a * low b) >>> 16)) >>> 16)
    + ((low a * high b + low (high a * low b + ((low a * low b) >>> 16))) >>> 16)

theorem hi_M0 (b : BitVec 32) : hi M0 b = mulhi M0 b := by
  apply BitVec.eq_of_toNat_eq
  unfold hi mulhi
  obtain ⟨H, L, hn, hH, hL⟩ : ∃ H L, b.toNat = 65536 * H + L ∧ H < 65536 ∧ L < 65536 := by
    have hb := b.isLt
    exact ⟨b.toNat / 65536, b.toNat % 65536, by omega, by omega, by omega⟩
  have e1 : b.toNat / 65536 = H := by omega
  have e2 : b.toNat % 65536 = L := by omega
  simp only [BitVec.toNat_add, BitVec.toNat_mul, toNat_shr, toNat_low, toNat_high, BitVec.toNat_ofNat, Nat.reducePow, Nat.reduceMod, Nat.reduceDiv, e1, e2]
  rw [hn]
  clear e1 e2 hn
  rw [Nat.mod_eq_of_lt (show 53841 * H < 4294967296 by omega)]
  rw [Nat.mod_eq_of_lt (show 53841 * L < 4294967296 by omega)]
  rw [Nat.mod_eq_of_lt (show 8019 * L < 4294967296 by omega)]
  rw [Nat.mod_eq_of_lt (show 53841 * L + 8019 * L / 65536 < 4294967296 by omega)]
  rw [Nat.mod_eq_of_lt (show 53841 * H + (53841 * L + 8019 * L / 65536) / 65536 < 4294967296 by omega)]
  rw [Nat.mod_eq_of_lt (show 8019 * H < 4294967296 by omega)]
  rw [Nat.mod_eq_of_lt (show 8019 * H + (53841 * L + 8019 * L / 65536) % 65536 < 4294967296 by omega)]
  rw [Nat.mod_eq_of_lt (show 53841 * H + (53841 * L + 8019 * L / 65536) / 65536 + (8019 * H + (53841 * L + 8019 * L / 65536) % 65536) / 65536 < 4294967296 by omega)]
  rw [Nat.mod_eq_of_lt (show 3528531795 * (65536 * H + L) / 4294967296 < 4294967296 by omega)]
  omega

theorem hi_M1 (b : BitVec 32) : hi M1 b = mulhi M1 b := by
  apply BitVec.eq_of_toNat_eq
  unfold hi mulhi
  obtain ⟨H, L, hn, hH, hL⟩ : ∃ H L, b.toNat = 65536 * H + L ∧ H < 65536 ∧ L < 65536 := by
    have hb := b.isLt
    exact ⟨b.toNat / 65536, b.toNat % 65536, by omega, by omega, by omega⟩
  have e1 : b.toNat / 65536 = H := by omega
  have e2 : b.toNat % 65536 = L := by omega
  simp only [BitVec.toNat_add, BitVec.toNat_mul, toNat_shr, toNat_low, toNat_high, BitVec.toNat_ofNat, Nat.reducePow, Nat.reduceMod, Nat.reduceDiv, e1, e2]
  rw [hn]
  clear e1 e2 hn
  rw [Nat.mod_eq_of_lt (show 52638 * H < 4294967296 by omega)]
  rw [Nat.mod_eq_of_lt (show 52638 * L < 4294967296 by omega)]
  rw [Nat.mod_eq_of_lt (show 36183 * L < 4294967296 by omega)]
  rw [Nat.mod_eq_of_lt (show 52638 * L + 36183 * L / 65536 < 4294967296 by omega)]
  rw [Nat.mod_eq_of_lt (show 52638 * H + (52638 * L + 36183 * L / 65536) / 65536 < 4294967296 by omega)]
  rw [Nat.mod_eq_of_lt (show 36183 * H < 4294967296 by omega)]
  rw [Nat.mod_eq_of_lt (show 36183 * H + (52638 * L + 36183 * L / 65536) % 65536 < 4294967296 by omega)]
  rw [Nat.mod_eq_of_lt (show 52638 * H + (52638 * L + 36183 * L / 65536) / 65536 + (36183 * H + (52638 * L + 36183 * L / 65536) % 65536) / 65536 < 4294967296 by omega)]
  rw [Nat.mod_eq_of_lt (show 3449720151 * (65536 * H + L) / 4294967296 < 4294967296 by omega)]
  omega

/-- The state after three rounds, of the counter's product and the two keys, as the kernel computes it. -/
def three (h l k0 k1 : BitVec 32) : St :=
  let c2 := h ^^^ k1
  let d0 := hi1 c2 ^^^ (k0 + 2654435769#32)
  let d2 := l ^^^ (hi0 k0 ^^^ (k1 + 3144134277#32))
  ⟨hi1 d2 ^^^ (c2 * M1) ^^^ (k0 + 1013904242#32), d2 * M1, hi0 d0 ^^^ (k0 * M0 ^^^ (k1 + 1993301258#32)), d0 * M0⟩

/-- One of the kernel's rounds. -/
def kround (ka kb : BitVec 32) (s : St) : St :=
  ⟨hi1 s.c2 ^^^ s.c1 ^^^ ka, s.c2 * M1, hi0 s.c0 ^^^ s.c3 ^^^ kb, s.c0 * M0⟩

theorem kround_eq (ka kb : BitVec 32) (s : St) : kround ka kb s = round ka kb s := by
  unfold kround round
  rw [hi0_eq, hi1_eq, BitVec.mul_comm s.c2, BitVec.mul_comm s.c0]

theorem mulhi_zero (a : BitVec 32) : mulhi a 0#32 = 0#32 := by
  unfold mulhi
  rw [BitVec.toNat_zero, Nat.mul_zero]

theorem three_eq (n k0 k1 : BitVec 32) : three (mulhi M0 n) (n * M0) k0 k1 = philox n k0 k1 3 := by
  unfold three
  rw [BitVec.xor_comm (mulhi M0 n) k1]
  simp only [philox, round, mulhi_zero, hi0_eq, hi1_eq, BitVec.mul_zero, BitVec.xor_zero, BitVec.zero_xor, BitVec.ofNat_eq_ofNat, BitVec.zero_mul, BitVec.add_zero]
  have e1 : (1#32 * W1 : BitVec 32) = 3144134277#32 := by decide
  have e2 : (2#32 * W0 : BitVec 32) = 1013904242#32 := by decide
  have e3 : (1#32 * W0 : BitVec 32) = 2654435769#32 := by decide
  have e4 : (2#32 * W1 : BitVec 32) = 1993301258#32 := by decide
  have hx : n * M0 ^^^ (mulhi M0 k0 ^^^ (k1 + 3144134277#32)) = mulhi M0 k0 ^^^ (M0 * n) ^^^ (k1 + 3144134277#32) := by
    rw [← BitVec.xor_assoc, BitVec.xor_comm (n * M0), BitVec.mul_comm n]
  rw [e1, e2, e3, e4, hx, BitVec.xor_comm k1]
  ext1 <;> simp only [BitVec.mul_comm _ M0, BitVec.mul_comm _ M1, BitVec.xor_assoc]

/-- All ten rounds as the kernel computes them: the last one under complemented keys. -/
def ten (h l k0 k1 : BitVec 32) : St :=
  kround ((k0 + 2415085441#32) ^^^ 4294967295#32) ((k1 + 2527404717#32) ^^^ 4294967295#32)
  <| kround (k0 + 4055616968#32) (k1 + 3678237736#32)
  <| kround (k0 + 1401181199#32) (k1 + 534103459#32)
  <| kround (k0 + 3041712726#32) (k1 + 1684936478#32)
  <| kround (k0 + 387276957#32) (k1 + 2835769497#32)
  <| kround (k0 + 2027808484#32) (k1 + 3986602516#32)
  <| kround (k0 + 3668340011#32) (k1 + 842468239#32)
  <| three h l k0 k1

/-- The four complemented draws. -/
def lane (h l k0 k1 : BitVec 32) : Fin 4 → BitVec 32
  | 0 => (ten h l k0 k1).c0
  | 1 => (ten h l k0 k1).c1 ^^^ 4294967295#32
  | 2 => (ten h l k0 k1).c2
  | 3 => (ten h l k0 k1).c3 ^^^ 4294967295#32

theorem lane_eq (n k0 k1 : BitVec 32) (j : Fin 4) :
    lane (mulhi M0 n) (n * M0) k0 k1 j = (philox n k0 k1 10).word j ^^^ 4294967295#32 := by
  have h9 : kround (k0 + 4055616968#32) (k1 + 3678237736#32) (kround (k0 + 1401181199#32) (k1 + 534103459#32)
      (kround (k0 + 3041712726#32) (k1 + 1684936478#32) (kround (k0 + 387276957#32) (k1 + 2835769497#32)
      (kround (k0 + 2027808484#32) (k1 + 3986602516#32) (kround (k0 + 3668340011#32) (k1 + 842468239#32)
      (three (mulhi M0 n) (n * M0) k0 k1)))))) = philox n k0 k1 9 := by
    simp only [kround_eq, three_eq]; rfl
  have h10 : philox n k0 k1 10 = round (k0 + 2415085441#32) (k1 + 2527404717#32) (philox n k0 k1 9) := rfl
  fin_cases j
  · show (ten _ _ _ _).c0 = (philox n k0 k1 10).c0 ^^^ _
    unfold ten; rw [h9, kround_eq, h10]
    simp only [round, BitVec.xor_assoc]
  · show (ten _ _ _ _).c1 ^^^ _ = (philox n k0 k1 10).c1 ^^^ _
    unfold ten; rw [h9, kround_eq, h10]
    simp only [round]
  · show (ten _ _ _ _).c2 = (philox n k0 k1 10).c2 ^^^ _
    unfold ten; rw [h9, kround_eq, h10]
    simp only [round, BitVec.xor_assoc]
  · show (ten _ _ _ _).c3 ^^^ _ = (philox n k0 k1 10).c3 ^^^ _
    unfold ten; rw [h9, kround_eq, h10]
    simp only [round]

/-- The low and the high word of `m` times the first multiplier, and the high word after a carry. -/
def stepLo : Fin 8 → BitVec 32 := ![0#32, 3528531795#32, 2762096294#32, 1995660793#32, 1229225292#32, 462789791#32, 3991321586#32, 3224886085#32]
def stepHi : Fin 8 → BitVec 32 := ![0#32, 0#32, 1#32, 2#32, 3#32, 4#32, 4#32, 5#32]
def stepHi' : Fin 8 → BitVec 32 := ![1#32, 1#32, 2#32, 3#32, 4#32, 5#32, 5#32, 6#32]

theorem step_lo (n : BitVec 32) (m : Fin 8) : n * M0 + stepLo m = (n + BitVec.ofNat 32 m.val) * M0 := by
  rw [BitVec.add_mul]
  congr 1
  revert m; decide

theorem div_add_div (Q R u l : ℕ) : (4294967296 * Q + R + (u * 4294967296 + l)) / 4294967296 = Q + u + (R + l) / 4294967296 := by omega
theorem div_of (Q R : ℕ) (h : R < 4294967296) : (4294967296 * Q + R) / 4294967296 = Q := by omega
theorem mod_of (Q R : ℕ) (h : R < 4294967296) : (4294967296 * Q + R) % 4294967296 = R := by omega
theorem carry_mod (Q u R l : ℕ) (hR : R < 4294967296) (hl : l < 4294967296) (hQ : Q < 16777216) (hu : u ≤ 5) (h : (R + l) % 4294967296 < R) :
    (Q + (u + 1)) % 4294967296 = Q + u + (R + l) / 4294967296 := by omega
theorem plain_mod (Q u R l : ℕ) (hR : R < 4294967296) (hl : l < 4294967296) (hQ : Q < 16777216) (hu : u ≤ 5) (h : ¬ (R + l) % 4294967296 < R) :
    (Q + u) % 4294967296 = Q + u + (R + l) / 4294967296 := by omega

theorem step_hi (n : BitVec 32) (hn : n.toNat < 16777216) (m : Fin 8) :
    mulhi M0 n + (if (n * M0 + stepLo m).ult (n * M0) then stepHi' m else stepHi m) = mulhi M0 (n + BitVec.ofNat 32 m.val) := by
  have hm : ∀ m : Fin 8, 3528531795 * m.val = (stepHi m).toNat * 4294967296 + (stepLo m).toNat ∧ (stepHi' m).toNat = (stepHi m).toNat + 1
      ∧ (stepHi m).toNat ≤ 5 := by decide
  obtain ⟨h1, h2, h3⟩ := hm m
  have hm8 := m.isLt
  have hl := (stepLo m).isLt
  obtain ⟨Q, R, hQ, hR, hQ'⟩ : ∃ Q R, 3528531795 * n.toNat = 4294967296 * Q + R ∧ R < 4294967296 ∧ Q < 16777216 :=
    ⟨3528531795 * n.toNat / 4294967296, 3528531795 * n.toNat % 4294967296, by omega, by omega, by omega⟩
  have e0 : (mulhi M0 n).toNat = Q := by
    unfold mulhi
    rw [BitVec.toNat_ofNat, show M0.toNat = 3528531795 from rfl, hQ, div_of Q R hR]
    exact Nat.mod_eq_of_lt (by omega)
  have e1 : (n * M0).toNat = R := by
    rw [BitVec.toNat_mul, show M0.toNat = 3528531795 from rfl, Nat.mul_comm, hQ]
    exact mod_of Q R hR
  have e2 : (n * M0 + stepLo m).toNat = (R + (stepLo m).toNat) % 4294967296 := by rw [BitVec.toNat_add, e1]
  have e3 : (n + BitVec.ofNat 32 m.val).toNat = n.toNat + m.val := by
    rw [BitVec.toNat_add, BitVec.toNat_ofNat]
    omega
  have e4 : (mulhi M0 (n + BitVec.ofNat 32 m.val)).toNat = Q + (stepHi m).toNat + (R + (stepLo m).toNat) / 4294967296 := by
    unfold mulhi
    rw [BitVec.toNat_ofNat, e3, show M0.toNat = 3528531795 from rfl, Nat.mul_add, hQ, h1, div_add_div]
    clear h1 hQ e0 e1 e2 e3
    exact Nat.mod_eq_of_lt (by omega)
  apply BitVec.eq_of_toNat_eq
  rw [e4, BitVec.toNat_add, e0]
  simp only [BitVec.ult, e1, e2, decide_eq_true_eq]
  split
  · next h => rw [h2]; exact carry_mod _ _ _ _ hR hl hQ' h3 h
  · next h => exact plain_mod _ _ _ _ hR hl hQ' h3 h

end Cert.Proof.Philox

end
-- ==== Proof.Quant.lean ====
/-
  The numbers of one code: the exponent of a group, the factor it gives, and the rounding of one value,
  as the kernel computes them on bits and as the reference computes them on values.
-/
module

public import Idealize.ShloMosaic.Lib.Pointwise

@[expose] public section

noncomputable section

namespace Cert.Proof.Quant

open Idealize.ShloMosaic

/-- A 32-bit float's value. -/
abbrev val (b : BitVec 32) : EReal := Ideal.ofBits .f32 b

/-- The value of a normal float of exponent field `ex` and fraction `fr`. -/
theorem val_normal (b : BitVec 32) (ex fr : ℕ) (hs : b.extractLsb' 31 1 = 0#1) (he : (b.extractLsb' 23 8).toNat = ex)
    (hf : (b.extractLsb' 0 23).toNat = fr) (h0 : ex ≠ 0) (h1 : ex ≠ 255) :
    val b = (((2 ^ 23 + fr : ℕ) * (2 : ℝ) ^ ((ex : ℤ) - 150) : ℝ) : EReal) := by
  show Ideal.ieee 8 23 b = _
  unfold Ideal.ieee
  simp only [he, hf, hs]
  rw [if_neg (by norm_num; exact h1), if_neg h0]
  have h2 : ((ex : ℤ) - (2 ^ (8 - 1) - 1) - ((23 : ℕ) : ℤ)) = (ex : ℤ) - 150 := by push_cast; omega
  rw [h2, if_neg (by decide), one_mul]

theorem val_2 : val 0x40000000#32 = ((2 : ℝ) : EReal) := by
  rw [val_normal _ 128 0 (by decide) (by decide) (by decide) (by decide) (by decide)]; norm_num
theorem val_4 : val 0x40800000#32 = ((4 : ℝ) : EReal) := by
  rw [val_normal _ 129 0 (by decide) (by decide) (by decide) (by decide) (by decide)]; norm_num
theorem val_8 : val 0x41000000#32 = ((8 : ℝ) : EReal) := by
  rw [val_normal _ 130 0 (by decide) (by decide) (by decide) (by decide) (by decide)]; norm_num
theorem val_16 : val 0x41800000#32 = ((16 : ℝ) : EReal) := by
  rw [val_normal _ 131 0 (by decide) (by decide) (by decide) (by decide) (by decide)]; norm_num
theorem val_6 : val 0x40C00000#32 = ((6 : ℝ) : EReal) := by
  rw [val_normal _ 129 4194304 (by decide) (by decide) (by decide) (by decide) (by decide)]; norm_num
theorem val_half : val 0x3F000000#32 = ((1 / 2 : ℝ) : EReal) := by
  rw [val_normal _ 126 0 (by decide) (by decide) (by decide) (by decide) (by decide)]; norm_num
theorem val_threeq : val 0x3F400000#32 = ((3 / 4 : ℝ) : EReal) := by
  rw [val_normal _ 126 4194304 (by decide) (by decide) (by decide) (by decide) (by decide)]; norm_num
theorem val_p22 : val 0x4A800000#32 = ((2 ^ 22 : ℝ) : EReal) := by
  rw [val_normal _ 149 0 (by decide) (by decide) (by decide) (by decide) (by decide)]; norm_num
theorem val_p21 : val 0x4A000000#32 = ((2 ^ 21 : ℝ) : EReal) := by
  rw [val_normal _ 148 0 (by decide) (by decide) (by decide) (by decide) (by decide)]; norm_num
theorem val_p20 : val 0x49800000#32 = ((2 ^ 20 : ℝ) : EReal) := by
  rw [val_normal _ 147 0 (by decide) (by decide) (by decide) (by decide) (by decide)]; norm_num
theorem val_p19 : val 0x49000000#32 = ((2 ^ 19 : ℝ) : EReal) := by
  rw [val_normal _ 146 0 (by decide) (by decide) (by decide) (by decide) (by decide)]; norm_num
theorem val_m24 : val 0x33800000#32 = ((2 ^ (-24 : ℤ) : ℝ) : EReal) := by
  rw [val_normal _ 103 0 (by decide) (by decide) (by decide) (by decide) (by decide)]; norm_num
theorem val_1 : val 0x3F800000#32 = ((1 : ℝ) : EReal) := by
  rw [val_normal _ 127 0 (by decide) (by decide) (by decide) (by decide) (by decide)]; norm_num
theorem val_min : val 0x01800000#32 = ((2 ^ (-124 : ℤ) : ℝ) : EReal) := by
  rw [val_normal _ 3 0 (by decide) (by decide) (by decide) (by decide) (by decide)]; norm_num
theorem val_max : val 0x7F7FFFFF#32 < ((2 ^ (128 : ℤ) : ℝ) : EReal) := by
  rw [val_normal _ 254 8388607 (by decide) (by decide) (by decide) (by decide) (by decide), EReal.coe_lt_coe_iff]; norm_num
theorem val_0 : val 0x00000000#32 = 0 := by
  show Ideal.ieee 8 23 0x00000000#32 = _
  unfold Ideal.ieee; simp

/-! ### The exponent -/

/-- The exponent field `E` of a positive number `v`, held at 254 from above. -/
structure IsExp (v : ℝ) (E : ℕ) : Prop where
  one_le : 1 ≤ E
  le : E ≤ 254
  low : (2 : ℝ) ^ ((E : ℤ) - 127) ≤ v
  high : v < (2 : ℝ) ^ ((E : ℤ) - 126)

theorem exists_exp (v : ℝ) (hl : (2 : ℝ) ^ (-124 : ℤ) ≤ v) (hh : v < (2 : ℝ) ^ (128 : ℤ)) : ∃ E, 3 ≤ E ∧ IsExp v E := by
  have hp : 0 < v := lt_of_lt_of_le (by positivity) hl
  obtain ⟨n, h1, h2⟩ := exists_mem_Ico_zpow hp (show (1 : ℝ) < 2 by norm_num)
  have h3 : -124 ≤ n := by
    have := (zpow_lt_zpow_iff_right₀ (a := (2 : ℝ)) (by norm_num)).1 (lt_of_le_of_lt hl h2)
    omega
  have h4 : n < 128 := (zpow_lt_zpow_iff_right₀ (a := (2 : ℝ)) (by norm_num)).1 (lt_of_le_of_lt h1 hh)
  refine ⟨(n + 127).toNat, by omega, by omega, by omega, ?_, ?_⟩
  · rwa [show (((n + 127).toNat : ℤ) - 127) = n by omega]
  · rwa [show (((n + 127).toNat : ℤ) - 126) = n + 1 by omega]

theorem IsExp.pos {v : ℝ} {E : ℕ} (h : IsExp v E) : 0 < v := lt_of_lt_of_le (by positivity) h.low

/-- A power of two is at most `v` exactly up to the exponent. -/
theorem IsExp.pow_le_iff {v : ℝ} {E : ℕ} (h : IsExp v E) (n : ℤ) : (2 : ℝ) ^ n ≤ v ↔ n ≤ (E : ℤ) - 127 := by
  constructor
  · intro hn
    have := (zpow_lt_zpow_iff_right₀ (a := (2 : ℝ)) (by norm_num)).1 (lt_of_le_of_lt hn h.high)
    omega
  · intro hn
    exact le_trans ((zpow_le_zpow_iff_right₀ (a := (2 : ℝ)) (by norm_num)).2 hn) h.low

/-- The value of a float with no fraction. -/
theorem val_pow (k : ℕ) (h0 : 1 ≤ k) (h1 : k ≤ 254) : val (BitVec.ofNat 32 (k * 2 ^ 23)) = ((2 ^ ((k : ℤ) - 127) : ℝ) : EReal) := by
  have hb : ∀ k : Fin 255, (BitVec.ofNat 32 (k.val * 2 ^ 23)).extractLsb' 31 1 = 0#1 ∧ ((BitVec.ofNat 32 (k.val * 2 ^ 23)).extractLsb' 23 8).toNat = k.val
      ∧ ((BitVec.ofNat 32 (k.val * 2 ^ 23)).extractLsb' 0 23).toNat = 0 := by decide +kernel
  obtain ⟨a, b, c⟩ := hb ⟨k, by omega⟩
  rw [val_normal _ k 0 a b c (by omega) (by omega)]
  congr 1
  rw [show ((2 ^ 23 + 0 : ℕ) : ℝ) = (2 : ℝ) ^ (23 : ℤ) by norm_num, ← zpow_add₀ (by norm_num)]
  congr 1; omega

/-- The value of the infinite float. -/
theorem val_inf : val (BitVec.ofNat 32 (255 * 2 ^ 23)) = ⊤ := by
  show Ideal.ieee 8 23 (BitVec.ofNat 32 (255 * 2 ^ 23)) = _
  unfold Ideal.ieee
  rw [if_pos (by decide), if_pos (by decide), if_neg (by decide)]

def sTry (v : EReal) (bit e : BitVec 32) : BitVec 32 :=
  Scalar.select (Ideal.cmp .oge v (val (e ||| bit))) (e ||| bit) e

def sExp (v : EReal) : BitVec 32 :=
  sTry v 8388608#32 <| sTry v 16777216#32 <| sTry v 33554432#32 <| sTry v 67108864#32 <| sTry v 134217728#32
    <| sTry v 268435456#32 <| sTry v 536870912#32 <| sTry v 1073741824#32 0#32

/-- One trial settles bit `i` of the exponent. -/
theorem sTry_eq {v : ℝ} {E : ℕ} (h : IsExp v E) (i : ℕ) (hi : i < 8) :
    sTry (v : EReal) (BitVec.ofNat 32 (2 ^ i * 2 ^ 23)) (BitVec.ofNat 32 (E / 2 ^ (i + 1) * 2 ^ (i + 1) * 2 ^ 23))
      = BitVec.ofNat 32 (E / 2 ^ i * 2 ^ i * 2 ^ 23) := by
  have hor : ∀ (E : Fin 256) (i : Fin 8), BitVec.ofNat 32 (E.val / 2 ^ (i.val + 1) * 2 ^ (i.val + 1) * 2 ^ 23) ||| BitVec.ofNat 32 (2 ^ i.val * 2 ^ 23)
      = BitVec.ofNat 32 ((E.val / 2 ^ (i.val + 1) * 2 ^ (i.val + 1) + 2 ^ i.val) * 2 ^ 23) := by decide +kernel
  have hn : ∀ (E : Fin 256) (i : Fin 8), 1 ≤ E.val / 2 ^ (i.val + 1) * 2 ^ (i.val + 1) + 2 ^ i.val ∧ E.val / 2 ^ (i.val + 1) * 2 ^ (i.val + 1) + 2 ^ i.val ≤ 255
      ∧ (if E.val / 2 ^ (i.val + 1) * 2 ^ (i.val + 1) + 2 ^ i.val ≤ E.val then E.val / 2 ^ (i.val + 1) * 2 ^ (i.val + 1) + 2 ^ i.val else E.val / 2 ^ (i.val + 1) * 2 ^ (i.val + 1))
        = E.val / 2 ^ i.val * 2 ^ i.val := by decide +kernel
  have hE := h.le
  have ho := hor ⟨E, by omega⟩ ⟨i, hi⟩
  obtain ⟨h1, h2, h3⟩ := hn ⟨E, by omega⟩ ⟨i, hi⟩
  simp only at ho h1 h2 h3
  unfold sTry
  rw [ho, ← h3]
  set T := E / 2 ^ (i + 1) * 2 ^ (i + 1) + 2 ^ i
  have hc : val (BitVec.ofNat 32 (T * 2 ^ 23)) ≤ (v : EReal) ↔ T ≤ E := by
    rcases Nat.lt_or_ge T 255 with hT | hT
    · rw [val_pow T h1 (by omega), EReal.coe_le_coe_iff, h.pow_le_iff]; omega
    · rw [show T = 255 by omega, val_inf]
      constructor
      · intro hv; exact absurd (top_le_iff.1 hv) (EReal.coe_ne_top v)
      · intro hv; omega
  unfold Ideal.cmp Scalar.select
  by_cases hle : T ≤ E
  · rw [if_pos hle, if_pos]; simp only [decide_eq_true (hc.2 hle)]; rfl
  · rw [if_neg hle, if_neg]; simp only [decide_eq_false (fun q => hle (hc.1 q))]; decide

theorem sExp_eq {v : ℝ} {E : ℕ} (h : IsExp v E) : sExp (v : EReal) = BitVec.ofNat 32 (E * 2 ^ 23) := by
  have h8 : E / 2 ^ (7 + 1) * 2 ^ (7 + 1) = 0 := by have := h.le; simp; omega
  have e7 := sTry_eq h 7 (by omega)
  rw [h8] at e7
  have e6 := sTry_eq h 6 (by omega)
  have e5 := sTry_eq h 5 (by omega)
  have e4 := sTry_eq h 4 (by omega)
  have e3 := sTry_eq h 3 (by omega)
  have e2 := sTry_eq h 2 (by omega)
  have e1 := sTry_eq h 1 (by omega)
  have e0 := sTry_eq h 0 (by omega)
  norm_num only at e7 e6 e5 e4 e3 e2 e1 e0
  unfold sExp
  rw [show (0#32) = BitVec.ofNat 32 0 from rfl]
  rw [e7, e6, e5, e4, e3, e2, e1, e0]
  norm_num

/-- At zero every trial fails. -/
theorem sExp_zero : sExp 0 = 0#32 := by
  have h : ∀ i : ℕ, i < 8 → sTry 0 (BitVec.ofNat 32 (2 ^ i * 2 ^ 23)) 0#32 = 0#32 := by
    intro i hi
    unfold sTry
    rw [BitVec.zero_or, val_pow _ Nat.one_le_two_pow (le_trans (Nat.pow_le_pow_right (by norm_num) (show i ≤ 7 by omega)) (by norm_num))]
    unfold Ideal.cmp Scalar.select
    rw [if_neg]
    have : ¬ (((2 : ℝ) ^ (((2 ^ i : ℕ) : ℤ) - 127) : ℝ) : EReal) ≤ 0 := by
      rw [not_le]; exact_mod_cast (by positivity : (0 : ℝ) < (2 : ℝ) ^ (((2 ^ i : ℕ) : ℤ) - 127))
    simp only [decide_eq_false this]; decide
  have e7 := h 7 (by omega)
  have e6 := h 6 (by omega)
  have e5 := h 5 (by omega)
  have e4 := h 4 (by omega)
  have e3 := h 3 (by omega)
  have e2 := h 2 (by omega)
  have e1 := h 1 (by omega)
  have e0 := h 0 (by omega)
  norm_num only at e7 e6 e5 e4 e3 e2 e1 e0
  unfold sExp
  rw [e7, e6, e5, e4, e3, e2, e1, e0]

def sFactor (v : EReal) : EReal := val (2160066560#32 - (sExp v &&& 2139095040#32))

theorem sFactor_eq {v : ℝ} {E : ℕ} (h : IsExp v E) (h3 : 3 ≤ E) : sFactor (v : EReal) = ((3 / 2 * (2 : ℝ) ^ (130 - (E : ℤ)) : ℝ) : EReal) := by
  have hb : ∀ k : Fin 255, 3 ≤ k.val → (2160066560#32 - (BitVec.ofNat 32 (k.val * 2 ^ 23) &&& 2139095040#32)).extractLsb' 31 1 = 0#1
      ∧ ((2160066560#32 - (BitVec.ofNat 32 (k.val * 2 ^ 23) &&& 2139095040#32)).extractLsb' 23 8).toNat = 257 - k.val
      ∧ ((2160066560#32 - (BitVec.ofNat 32 (k.val * 2 ^ 23) &&& 2139095040#32)).extractLsb' 0 23).toNat = 4194304 := by decide +kernel
  have hE := h.le
  obtain ⟨a, b, c⟩ := hb ⟨E, by omega⟩ h3
  unfold sFactor
  rw [sExp_eq h, val_normal _ (257 - E) 4194304 a b c (by omega) (by omega), EReal.coe_eq_coe_iff]
  rw [show ((2 ^ 23 + 4194304 : ℕ) : ℝ) = 3 / 2 * (2 : ℝ) ^ (23 : ℤ) by norm_num, mul_assoc, ← zpow_add₀ (by norm_num),
    show (23 : ℤ) + (((257 - E : ℕ) : ℤ) - 150) = 130 - (E : ℤ) by omega]

theorem val_real (b : BitVec 32) (h : (b.extractLsb' 23 8).toNat ≠ 255) : ∃ r : ℝ, val b = (r : EReal) := by
  show ∃ r : ℝ, Ideal.ieee 8 23 b = (r : EReal)
  unfold Ideal.ieee
  simp only
  rw [if_neg (by norm_num; exact h)]
  split
  · exact ⟨_, rfl⟩
  · exact ⟨_, rfl⟩

theorem sFactor_zero : ∃ r : ℝ, sFactor 0 = (r : EReal) := by
  unfold sFactor
  rw [sExp_zero]
  exact val_real _ (by decide)

def sScale (v : EReal) : BitVec 32 :=
  Scalar.select (Ideal.cmp .oeq v (val 0x00000000#32)) 127#32 ((sExp v >>> 23) - 2#32)

/-- The reference's exponent: the largest power of two at most `v`. -/
def rN (v : EReal) : BitVec 32 :=
  (Finset.univ : Finset (Fin 254)).fold IntOp.maxsi 2147483648#32 fun k =>
    Scalar.select (Ideal.cmp .ole (Ideal.pow (val 0x40000000#32) (((4294967170#32 + BitVec.ofNat 32 k.val).toInt : ℝ) : EReal)) v)
      (4294967170#32 + BitVec.ofNat 32 k.val) 4294967169#32

def rE (v : EReal) : BitVec 32 :=
  Scalar.select (Ideal.cmp .oeq v (val 0x00000000#32)) 0#32 (rN v + 1#32 - 3#32)

theorem toInt_maxsi (x y : BitVec 32) : (IntOp.maxsi x y).toInt = max x.toInt y.toInt := by
  unfold IntOp.maxsi
  by_cases h : y.slt x = true
  · rw [if_pos h]; have := BitVec.slt_iff_toInt_lt.1 h; omega
  · rw [if_neg h]; have := mt BitVec.slt_iff_toInt_lt.2 h; omega

theorem pow2 (n : ℤ) : Ideal.pow (val 0x40000000#32) ((n : ℝ) : EReal) = ((2 ^ n : ℝ) : EReal) := by
  rw [val_2, Ideal.pow_coe_coe]
  congr 1
  exact Real.rpow_intCast 2 n

theorem rN_eq {v : ℝ} {E : ℕ} (h : IsExp v E) : rN (v : EReal) = BitVec.ofInt 32 ((E : ℤ) - 127) := by
  have hk : ∀ k : Fin 254, (4294967170#32 + BitVec.ofNat 32 k.val).toInt = (k.val : ℤ) - 126 := by decide +kernel
  have hf : ∀ k : Fin 254, (Scalar.select (Ideal.cmp .ole (Ideal.pow (val 0x40000000#32) (((4294967170#32 + BitVec.ofNat 32 k.val).toInt : ℝ) : EReal)) (v : EReal))
      (4294967170#32 + BitVec.ofNat 32 k.val) 4294967169#32 : BitVec 32).toInt = if k.val + 1 ≤ E then (k.val : ℤ) - 126 else -127 := by
    intro k
    rw [pow2]
    unfold Ideal.cmp Scalar.select
    simp only [EReal.coe_le_coe_iff, h.pow_le_iff, hk]
    by_cases hle : k.val + 1 ≤ E
    · rw [if_pos hle, if_pos]
      · exact hk k
      · rw [decide_eq_true (by omega)]; rfl
    · rw [if_neg hle, if_neg]
      · decide
      · rw [decide_eq_false (by omega)]; decide
  apply BitVec.eq_of_toInt_eq
  have h1 := h.one_le
  have h2 := h.le
  have hr : (BitVec.ofInt 32 ((E : ℤ) - 127)).toInt = (E : ℤ) - 127 := by
    rw [BitVec.toInt_ofInt, Int.bmod_eq_of_le] <;> norm_num <;> omega
  rw [hr]
  unfold rN
  rw [← Finset.fold_hom (op' := max) (m := BitVec.toInt) toInt_maxsi]
  simp only [hf]
  apply le_antisymm
  · rw [Finset.fold_max_le]
    refine ⟨?_, fun k _ => ?_⟩
    · rw [show (2147483648#32).toInt = -2147483648 from rfl]; omega
    · split <;> omega
  · rw [Finset.le_fold_max]
    refine Or.inr ⟨⟨E - 1, by omega⟩, Finset.mem_univ _, ?_⟩
    show _ ≤ if E - 1 + 1 ≤ E then ((E - 1 : ℕ) : ℤ) - 126 else -127
    rw [if_pos (by omega)]; omega

theorem cmp_zero_pos {v : ℝ} (h : 0 < v) : Ideal.cmp .oeq (v : EReal) (val 0x00000000#32) = 0#1 := by
  rw [val_0]; unfold Ideal.cmp
  have : ¬ ((v : EReal) = 0) := by exact_mod_cast h.ne'
  simp only [decide_eq_false this]; rfl

theorem cmp_zero_zero : Ideal.cmp .oeq (0 : EReal) (val 0x00000000#32) = 1#1 := by
  rw [val_0]; unfold Ideal.cmp; simp

theorem rE_eq {v : ℝ} {E : ℕ} (h : IsExp v E) : rE (v : EReal) = BitVec.ofInt 32 ((E : ℤ) - 129) := by
  unfold rE
  rw [cmp_zero_pos h.pos, rN_eq h]
  have : ∀ k : Fin 255, 1 ≤ k.val → (Scalar.select 0#1 0#32 (BitVec.ofInt 32 ((k.val : ℤ) - 127) + 1#32 - 3#32) : BitVec 32) = BitVec.ofInt 32 ((k.val : ℤ) - 129) := by decide +kernel
  exact this ⟨E, by have := h.le; omega⟩ h.one_le

theorem rE_zero : rE 0 = 0#32 := by
  unfold rE
  rw [cmp_zero_zero]; rfl

/-- One scale, on both sides. -/
theorem scale_eq {v : ℝ} {E : ℕ} (h : IsExp v E) : (sScale (v : EReal)).setWidth 8 = (rE (v : EReal) + 127#32).setWidth 8 := by
  unfold sScale
  rw [cmp_zero_pos h.pos, rE_eq h, sExp_eq h]
  have : ∀ k : Fin 255, 1 ≤ k.val → (Scalar.select 0#1 127#32 ((BitVec.ofNat 32 (k.val * 2 ^ 23) >>> 23) - 2#32) : BitVec 32).setWidth 8
      = (BitVec.ofInt 32 ((k.val : ℤ) - 129) + 127#32).setWidth 8 := by decide +kernel
  exact this ⟨E, by have := h.le; omega⟩ h.one_le

theorem scale_zero : (sScale 0).setWidth 8 = (rE 0 + 127#32).setWidth 8 := by
  unfold sScale
  rw [cmp_zero_zero, rE_zero]; rfl

/-! ### One value of a group, before rounding -/

/-- The reference's value: a magnitude over the group's scale. -/
def rA (g v : EReal) : EReal := g * val 0x3F400000#32 * Ideal.pow (val 0x40000000#32) (((-rE v).toInt : ℝ) : EReal)

/-- The kernel's value: four times the reference's, brought into [2, 24). -/
def sLift (c ch g : EReal) : EReal := max (g * c) (g * ch + val 0x40000000#32)

/-- A group's largest magnitude and one of its magnitudes. -/
structure Group (g v : ℝ) : Prop where
  nonneg : 0 ≤ g
  le : g ≤ v
  cases : v = 0 ∨ ∃ E, 3 ≤ E ∧ IsExp v E

theorem values {g v : ℝ} (h : Group g v) : ∃ a : ℝ, 0 ≤ a ∧ a < 6 ∧ rA (g : EReal) (v : EReal) = (a : EReal)
    ∧ sLift (sFactor (v : EReal)) (sFactor (v : EReal) * val 0x3F000000#32) (g : EReal) = ((max (4 * a) (2 * a + 2) : ℝ) : EReal) := by
  rcases h.cases with hv | ⟨E, h3, hE⟩
  · subst hv
    have hg : g = 0 := le_antisymm h.le h.nonneg
    subst hg
    obtain ⟨r, hr⟩ := sFactor_zero
    refine ⟨0, le_refl _, by norm_num, ?_, ?_⟩
    · unfold rA; simp
    · unfold sLift
      rw [EReal.coe_zero, hr, val_half, val_2, ← EReal.coe_mul, zero_mul, zero_mul, zero_add]
      rw [max_eq_right (by norm_num : (4 * 0 : ℝ) ≤ 2 * 0 + 2), max_eq_right (by exact_mod_cast (by norm_num : (0 : ℝ) ≤ 2))]
      norm_num
  · have hlt : g < (2 : ℝ) ^ ((E : ℤ) - 126) := lt_of_le_of_lt h.le hE.high
    have hp : (2 : ℝ) ^ (130 - (E : ℤ)) = 2 * (2 : ℝ) ^ (129 - (E : ℤ)) := by
      rw [show (130 - (E : ℤ)) = 1 + (129 - (E : ℤ)) by ring, zpow_add₀ (by norm_num)]; norm_num
    refine ⟨g * (3 / 4) * (2 : ℝ) ^ (129 - (E : ℤ)), ?_, ?_, ?_, ?_⟩
    · exact mul_nonneg (mul_nonneg h.nonneg (by norm_num)) (by positivity)
    · have : g * (2 : ℝ) ^ (129 - (E : ℤ)) < 8 := by
        calc g * (2 : ℝ) ^ (129 - (E : ℤ)) < (2 : ℝ) ^ ((E : ℤ) - 126) * (2 : ℝ) ^ (129 - (E : ℤ)) := mul_lt_mul_of_pos_right hlt (by positivity)
          _ = 8 := by rw [← zpow_add₀ (by norm_num), show ((E : ℤ) - 126 + (129 - (E : ℤ))) = 3 by ring]; norm_num
      linarith
    · unfold rA
      have hn : ∀ k : Fin 255, 1 ≤ k.val → (-(BitVec.ofInt 32 ((k.val : ℤ) - 129))).toInt = 129 - (k.val : ℤ) := by decide +kernel
      rw [rE_eq hE, hn ⟨E, by have := hE.le; omega⟩ hE.one_le, val_threeq]
      show (g : EReal) * _ * Ideal.pow _ (((129 - (E : ℤ) : ℤ) : ℝ) : EReal) = _
      rw [pow2, ← EReal.coe_mul, ← EReal.coe_mul]
    · unfold sLift
      rw [sFactor_eq hE h3, val_half, val_2, ← EReal.coe_mul, ← EReal.coe_mul, ← EReal.coe_mul, ← EReal.coe_add,
        ← EReal.coe_strictMono.monotone.map_max, hp]
      congr 2 <;> ring

/-! ### One value, rounded -/

def sOct {α : Type} (b : EReal) (v2 v4 v8 v16 : α) : α :=
  Scalar.select (Ideal.cmp .olt b (val 0x40800000#32)) v2
    (Scalar.select (Ideal.cmp .olt b (val 0x41000000#32)) v4 (Scalar.select (Ideal.cmp .olt b (val 0x41800000#32)) v8 v16))

/-- The bits of a float in [2, 32). -/
def sBits (b : EReal) : BitVec 32 :=
  sOct b 1073741824#32 1082130432#32 1090519040#32 1098907648#32
    + Ideal.fptosi 32 (sOct b ((b - val 0x40000000#32) * val 0x4A800000#32) ((b - val 0x40800000#32) * val 0x4A000000#32)
      ((b - val 0x41000000#32) * val 0x49800000#32) ((b - val 0x41800000#32) * val 0x49000000#32))

/-- The kernel's code, 256 above. -/
def sCode (w : BitVec 32) (b : EReal) : BitVec 32 := (sBits b + w >>> 10) >>> 22

/-- The reference's code below a value, and the fraction left. -/
def rIdx (a : EReal) : EReal :=
  Scalar.select (Ideal.cmp .olt a (val 0x40000000#32)) (Ideal.liftRound Int.floor (val 0x40000000#32 * a))
    (Scalar.select (Ideal.cmp .olt a (val 0x40800000#32)) (val 0x40800000#32 + Ideal.liftRound Int.floor (a - val 0x40000000#32)) (val 0x40C00000#32))
def rFrac (a : EReal) : EReal :=
  Scalar.select (Ideal.cmp .olt a (val 0x40000000#32)) (val 0x40000000#32 * a - Ideal.liftRound Int.floor (val 0x40000000#32 * a))
    (Scalar.select (Ideal.cmp .olt a (val 0x40800000#32)) (a - val 0x40000000#32 - Ideal.liftRound Int.floor (a - val 0x40000000#32))
      ((a - val 0x40800000#32) * val 0x3F000000#32))
/-- A draw as a number in [0, 1). -/
def rUni (w : BitVec 32) : EReal := (((w >>> 8).toNat : ℝ) : EReal) * val 0x33800000#32
def rCode (a : EReal) (w : BitVec 32) : BitVec 32 :=
  Ideal.fptosi 32 (rIdx a) + (Ideal.cmp .olt (rUni w) (rFrac a)).setWidth 32

theorem cmp_olt_coe (x y : ℝ) : Ideal.cmp .olt (x : EReal) (y : EReal) = if x < y then 1#1 else 0#1 := by
  unfold Ideal.cmp
  simp only [EReal.coe_lt_coe_iff]
  by_cases h : x < y
  · rw [if_pos h, decide_eq_true h]; rfl
  · rw [if_neg h, decide_eq_false h]; rfl

theorem select_one {α : Type} (a b : α) : Scalar.select 1#1 a b = a := rfl
theorem select_zero {α : Type} (a b : α) : Scalar.select 0#1 a b = b := rfl

theorem fptosi_nat (n : ℕ) (h : n < 2 ^ 31) : Ideal.fptosi 32 ((n : ℝ) : EReal) = BitVec.ofNat 32 n := by
  unfold Ideal.fptosi
  rw [Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by norm_num at h ⊢; omega]
  exact BitVec.ofInt_natCast 32 n

theorem sBits_2 {r : ℝ} (h : r < 4) : sBits (r : EReal) = 1073741824#32 + Ideal.fptosi 32 (((r - 2) * 2 ^ 22 : ℝ) : EReal) := by
  unfold sBits sOct
  rw [val_4, val_8, val_16, val_2, val_p22, cmp_olt_coe, if_pos h, select_one, select_one]; norm_cast
theorem sBits_4 {r : ℝ} (h : 4 ≤ r) (h' : r < 8) : sBits (r : EReal) = 1082130432#32 + Ideal.fptosi 32 (((r - 4) * 2 ^ 21 : ℝ) : EReal) := by
  unfold sBits sOct
  rw [val_4, val_8, val_16, val_p21, cmp_olt_coe, cmp_olt_coe, if_neg (not_lt.2 h), if_pos h', select_zero, select_one, select_zero, select_one]; norm_cast
theorem sBits_8 {r : ℝ} (h : 8 ≤ r) (h' : r < 16) : sBits (r : EReal) = 1090519040#32 + Ideal.fptosi 32 (((r - 8) * 2 ^ 20 : ℝ) : EReal) := by
  unfold sBits sOct
  rw [val_4, val_8, val_16, val_p20, cmp_olt_coe, cmp_olt_coe, cmp_olt_coe, if_neg (by linarith), if_neg (not_lt.2 h), if_pos h']
  simp only [select_zero, select_one]; norm_cast
theorem sBits_16 {r : ℝ} (h : 16 ≤ r) : sBits (r : EReal) = 1098907648#32 + Ideal.fptosi 32 (((r - 16) * 2 ^ 19 : ℝ) : EReal) := by
  unfold sBits sOct
  rw [val_4, val_8, val_16, val_p19, cmp_olt_coe, cmp_olt_coe, cmp_olt_coe, if_neg (by linarith), if_neg (by linarith), if_neg (not_lt.2 h)]
  simp only [select_zero]; norm_cast

theorem pieces {a : ℝ} (h0 : 0 ≤ a) (h6 : a < 6) : ∃ (N : ℕ) (f : ℝ), N ≤ 6 ∧ 0 ≤ f ∧ f < 1 ∧ rIdx (a : EReal) = ((N : ℝ) : EReal) ∧ rFrac (a : EReal) = (f : EReal)
    ∧ ∀ K : ℕ, K < 2 ^ 22 → f * 2 ^ 22 = (K : ℝ) → sBits ((max (4 * a) (2 * a + 2) : ℝ) : EReal) = BitVec.ofNat 32 (2 ^ 30 + N * 2 ^ 22 + K) := by
  have bits : ∀ (A : BitVec 32) (A' N K : ℕ) (x : ℝ), A.toNat = 2 ^ 30 + A' * 2 ^ 22 → A' ≤ N → N ≤ 6 → K < 2 ^ 22 → x = (((N - A') * 2 ^ 22 + K : ℕ) : ℝ)
      → A + Ideal.fptosi 32 (x : EReal) = BitVec.ofNat 32 (2 ^ 30 + N * 2 ^ 22 + K) := by
    intro A A' N K x hA hA' hN hK hx
    rw [hx, fptosi_nat _ (by omega)]
    apply BitVec.eq_of_toNat_eq
    rw [BitVec.toNat_add, BitVec.toNat_ofNat, BitVec.toNat_ofNat, hA]
    rw [Nat.mod_eq_of_lt (a := (N - A') * 2 ^ 22 + K) (by omega),
      show 2 ^ 30 + A' * 2 ^ 22 + ((N - A') * 2 ^ 22 + K) = 2 ^ 30 + N * 2 ^ 22 + K by omega]
  rcases lt_or_ge a 2 with h2 | h2
  · have hfl : 0 ≤ ⌊2 * a⌋ := Int.floor_nonneg.2 (by linarith)
    have hfl4 : ⌊2 * a⌋ < 4 := Int.floor_lt.2 (by push_cast; linarith)
    obtain ⟨n, hn⟩ := Int.eq_ofNat_of_zero_le hfl
    have hl := Int.floor_le (2 * a)
    have hu := Int.lt_floor_add_one (2 * a)
    rw [hn] at hl hu hfl4
    push_cast at hl hu
    refine ⟨n, 2 * a - n, by omega, by linarith, by linarith, ?_, ?_, ?_⟩
    · unfold rIdx
      rw [val_2, cmp_olt_coe, if_pos h2, select_one, ← EReal.coe_mul, Ideal.liftRound_coe, hn]; norm_cast
    · unfold rFrac
      rw [val_2, cmp_olt_coe, if_pos h2, select_one, ← EReal.coe_mul, Ideal.liftRound_coe, hn]; norm_cast
    · intro K hK hf
      rcases lt_or_ge a 1 with h1 | h1
      · rw [max_eq_right (by linarith), sBits_2 (by linarith)]
        refine bits _ 0 n K _ (by decide) (by omega) (by omega) hK ?_
        push_cast; rw [← hf]; simp only [Nat.sub_zero]; ring
      · rw [max_eq_left (by linarith), sBits_4 (by linarith) (by linarith)]
        have hn2 : 2 ≤ n := by
          have : (2 : ℤ) ≤ ⌊2 * a⌋ := Int.le_floor.2 (by push_cast; linarith)
          omega
        refine bits _ 2 n K _ (by decide) hn2 (by omega) hK ?_
        rw [Nat.cast_add, Nat.cast_mul, Nat.cast_sub hn2, ← hf]; push_cast; ring
  · rw [max_eq_left (by linarith)]
    rcases lt_or_ge a 4 with h4 | h4
    · have hfl : 0 ≤ ⌊a - 2⌋ := Int.floor_nonneg.2 (by linarith)
      have hfl4 : ⌊a - 2⌋ < 2 := Int.floor_lt.2 (by push_cast; linarith)
      obtain ⟨n, hn⟩ := Int.eq_ofNat_of_zero_le hfl
      have hl := Int.floor_le (a - 2)
      have hu := Int.lt_floor_add_one (a - 2)
      rw [hn] at hl hu hfl4
      push_cast at hl hu
      refine ⟨4 + n, a - 2 - n, by omega, by linarith, by linarith, ?_, ?_, ?_⟩
      · unfold rIdx
        rw [val_2, val_4, cmp_olt_coe, cmp_olt_coe, if_neg (not_lt.2 h2), if_pos h4, select_zero, select_one, ← EReal.coe_sub, Ideal.liftRound_coe, hn]; norm_cast
      · unfold rFrac
        rw [val_2, val_4, cmp_olt_coe, cmp_olt_coe, if_neg (not_lt.2 h2), if_pos h4, select_zero, select_one, ← EReal.coe_sub, Ideal.liftRound_coe, hn]; norm_cast
      · intro K hK hf
        rw [sBits_8 (by linarith) (by linarith)]
        refine bits _ 4 (4 + n) K _ (by decide) (by omega) (by omega) hK ?_
        rw [Nat.add_sub_cancel_left]; push_cast; rw [← hf]; ring
    · refine ⟨6, (a - 4) * (1 / 2), le_refl _, by linarith, by linarith, ?_, ?_, ?_⟩
      · unfold rIdx
        rw [val_2, val_4, cmp_olt_coe, cmp_olt_coe, if_neg (not_lt.2 h2), if_neg (not_lt.2 h4), select_zero, select_zero, val_6]; norm_cast
      · unfold rFrac
        rw [val_2, val_4, cmp_olt_coe, cmp_olt_coe, if_neg (not_lt.2 h2), if_neg (not_lt.2 h4), select_zero, select_zero, val_half]; norm_cast
      · intro K hK hf
        rw [sBits_16 (by linarith)]
        refine bits _ 6 6 K _ (by decide) (by omega) (by omega) hK ?_
        push_cast; rw [← hf]; ring

/-- A fraction that 22 bits hold. -/
def Exact (f : EReal) : Prop := Ideal.cmp .oeq (Ideal.liftRound Int.floor (f * val 0x4A800000#32)) (f * val 0x4A800000#32) = 1#1

theorem Exact.nat {f : ℝ} (h : Exact (f : EReal)) (h0 : 0 ≤ f) (h1 : f < 1) : ∃ K : ℕ, K < 2 ^ 22 ∧ f * 2 ^ 22 = (K : ℝ) := by
  unfold Exact at h
  rw [val_p22, ← EReal.coe_mul, Ideal.liftRound_coe] at h
  unfold Ideal.cmp at h
  have he : ((⌊f * 2 ^ 22⌋ : ℝ) : EReal) = ((f * 2 ^ 22 : ℝ) : EReal) := by
    by_contra hne
    have h2 : BitVec.ofBool (decide (((⌊f * 2 ^ 22⌋ : ℝ) : EReal) = ((f * 2 ^ 22 : ℝ) : EReal))) = 1#1 := h
    rw [decide_eq_false hne] at h2
    exact absurd h2 (by decide)
  rw [EReal.coe_eq_coe_iff] at he
  have hfl : 0 ≤ ⌊f * 2 ^ 22⌋ := Int.floor_nonneg.2 (by positivity)
  have hfu : ⌊f * 2 ^ 22⌋ < 2 ^ 22 := Int.floor_lt.2 (by push_cast; linarith)
  obtain ⟨n, hn⟩ := Int.eq_ofNat_of_zero_le hfl
  refine ⟨n, by omega, ?_⟩
  rw [← he, hn]; norm_cast

/-- The kernel's code of a complemented draw is the reference's of the draw. -/
theorem code_eq {a : ℝ} (h0 : 0 ≤ a) (h6 : a < 6) (he : Exact (rFrac (a : EReal))) (w : BitVec 32) :
    ∃ N : ℕ, N < 8 ∧ rCode (a : EReal) w = BitVec.ofNat 32 N
      ∧ sCode (w ^^^ 4294967295#32) ((max (4 * a) (2 * a + 2) : ℝ) : EReal) = BitVec.ofNat 32 (256 + N) := by
  obtain ⟨N, f, hN, hf0, hf1, hi, hf, hb⟩ := pieces h0 h6
  rw [hf] at he
  obtain ⟨K, hK, hfK⟩ := he.nat hf0 hf1
  have hw := w.isLt
  have hup : Ideal.cmp .olt (rUni w) (rFrac (a : EReal)) = if w.toNat / 2 ^ 10 < K then 1#1 else 0#1 := by
    unfold rUni
    rw [hf, val_m24, ← EReal.coe_mul, cmp_olt_coe, BitVec.toNat_ushiftRight, Nat.shiftRight_eq_div_pow]
    congr 1
    rw [eq_iff_iff]
    have : (((w.toNat / 2 ^ 8 : ℕ) : ℝ) * 2 ^ (-24 : ℤ) < f) ↔ ((w.toNat / 2 ^ 8 : ℕ) : ℝ) < ((4 * K : ℕ) : ℝ) := by
      push_cast; rw [← hfK]
      constructor
      · intro h
        have := mul_lt_mul_of_pos_right h (show (0 : ℝ) < 2 ^ 24 by norm_num)
        rw [mul_assoc, show (2 : ℝ) ^ (-24 : ℤ) * 2 ^ 24 = 1 by norm_num, mul_one] at this
        linarith
      · intro h
        have := mul_lt_mul_of_pos_right h (show (0 : ℝ) < 2 ^ (-24 : ℤ) by positivity)
        rw [show 4 * (f * 2 ^ 22) * (2 : ℝ) ^ (-24 : ℤ) = f by norm_num; ring] at this
        exact this
    rw [this, Nat.cast_lt]
    omega
  have hcode : sCode (w ^^^ 4294967295#32) ((max (4 * a) (2 * a + 2) : ℝ) : EReal) = BitVec.ofNat 32 (256 + (N + if w.toNat / 2 ^ 10 < K then 1 else 0)) := by
    unfold sCode
    rw [hb K hK hfK]
    have hx : (w ^^^ 4294967295#32).toNat = 2 ^ 32 - 1 - w.toNat := by
      rw [show (4294967295#32) = BitVec.allOnes 32 from rfl, BitVec.xor_allOnes, BitVec.toNat_not]
    apply BitVec.eq_of_toNat_eq
    rw [BitVec.toNat_ushiftRight, BitVec.toNat_add, BitVec.toNat_ushiftRight, hx, BitVec.toNat_ofNat, BitVec.toNat_ofNat,
      Nat.shiftRight_eq_div_pow, Nat.shiftRight_eq_div_pow]
    rw [show (2 ^ 32 - 1 - w.toNat) / 2 ^ 10 = 2 ^ 22 - 1 - w.toNat / 2 ^ 10 by omega]
    rw [Nat.mod_eq_of_lt (a := 2 ^ 30 + N * 2 ^ 22 + K) (by omega), Nat.mod_eq_of_lt (a := 2 ^ 30 + N * 2 ^ 22 + K + _) (by omega)]
    split <;> omega
  refine ⟨N + if w.toNat / 2 ^ 10 < K then 1 else 0, by split <;> omega, ?_, hcode⟩
  unfold rCode
  rw [hup, hi, fptosi_nat N (by omega)]
  have : ∀ n : Fin 7, ∀ p : Bool, BitVec.ofNat 32 n.val + (if p then 1#1 else 0#1 : BitVec 1).setWidth 32 = BitVec.ofNat 32 (n.val + if p then 1 else 0) := by decide
  have := this ⟨N, by omega⟩ (decide (w.toNat / 2 ^ 10 < K))
  simpa using this

/-- One for a negative number, nought else. -/
def neg (x : EReal) : ℕ := if x < 0 then 1 else 0

theorem neg_le (x : EReal) : neg x ≤ 1 := by unfold neg; split <;> omega

end Cert.Proof.Quant

end
-- ==== Proof.KWords.lean ====
/-
  The kernel's vectors read at one index: a draw, an exponent, a value, a code.
-/
module

public import proofs.«01_k».proof.Proof.Mirror
public import proofs.«01_k».proof.Proof.Philox
public import proofs.«01_k».proof.Proof.Quant

@[expose] public section

noncomputable section

namespace Cert.Proof.KI

open Cert.KernelIdeal Cert.KernelIdeal.Gen
open Idealize.ShloMosaic

/-- A state's four words at an index. -/
def St.at (s : St) (y : S8x128.Idx) : Philox.St := ⟨s.c0 y, s.c1 y, s.c2 y, s.c3 y⟩

theorem hi0_at (b : W32) (y) : hi0 b y = Philox.hi0 (b y) := rfl
theorem hi1_at (b : W32) (y) : hi1 b y = Philox.hi1 (b y) := rfl
theorem shi0_at (b : BitVec 32) : shi0 b = Philox.hi0 b := rfl

theorem round_at (ka kb : BitVec 32) (s : St) (y) : (round ka kb s).at y = Philox.kround ka kb (s.at y) := by
  unfold round St.at Philox.kround
  simp only [← hi0_at, ← hi1_at]
  rfl

theorem two_at (h l : W32) (k0 k1 : BitVec 32) (y) : (two h l k0 k1).at y = Philox.three (h y) (l y) k0 k1 := by
  unfold two St.at Philox.three
  simp only [← shi0_at]
  rfl

theorem ten_at (h l : W32) (k0 k1 : BitVec 32) (y) : (ten h l k0 k1).at y = Philox.ten (h y) (l y) k0 k1 := by
  unfold ten Philox.ten
  simp only [round_at, two_at]
  rfl

theorem lane_at (h l : W32) (k0 k1 : BitVec 32) (j : Fin 4) (y) : lane h l k0 k1 j y = Philox.lane (h y) (l y) k0 k1 j := by
  have e := ten_at h l k0 k1 y
  fin_cases j
  · exact congrArg Philox.St.c0 e
  · exact congrArg (fun s => s.c1 ^^^ 4294967295#32) e
  · exact congrArg Philox.St.c2 e
  · exact congrArg (fun s => s.c3 ^^^ 4294967295#32) e

/-- A draw is the complement of the generator's word. -/
theorem draws_at (v0 v1 : BitVec 32) (n : W32) (m : Fin 8) (j : Fin 4) (y : S8x128.Idx) (hn : (n y).toNat < 16777216) :
    draws v0 v1 n m j y = (Philox.philox (n y + BitVec.ofNat 32 m.val) v0 v1 10).word j ^^^ 4294967295#32 := by
  unfold draws
  rw [lane_at]
  have hl : lom (lo0 n) (stepLo m) y = n y * Philox.M0 + Philox.stepLo m := rfl
  have hh : him (hi0 n) (lo0 n) (stepLo m) (stepHi m) (stepHi' m) y
      = Philox.hi0 (n y) + (if (n y * Philox.M0 + Philox.stepLo m).ult (n y * Philox.M0) then Philox.stepHi' m else Philox.stepHi m) := by
    show hi0 n y + Scalar.select (IntOp.cmpi .ult (lom (lo0 n) (stepLo m) y) (lo0 n y)) (stepHi' m) (stepHi m) = _
    rw [hi0_at, hl]
    show _ + Scalar.select (BitVec.ofBool ((n y * Philox.M0 + Philox.stepLo m).ult (n y * Philox.M0))) (stepHi' m) (stepHi m) = _
    cases (n y * Philox.M0 + Philox.stepLo m).ult (n y * Philox.M0) <;> rfl
  rw [hl, hh, Philox.hi0_eq, Philox.step_hi (hn := hn), Philox.step_lo, Philox.lane_eq]

open Cert.Proof.Quant

theorem tryBit_at (v : R32 Ideal) (bit : BitVec 32) (e : W32) (y) : tryBit v bit e y = sTry (v y) bit (e y) := rfl
theorem expBits_at (v : R32 Ideal) (y) : expBits v y = sExp (v y) := by
  unfold expBits sExp
  simp only [tryBit_at]
  rfl
theorem factor_form (e : W32) (y : S8x128.Idx) : (bitcastToFloat .f32 (subi (sp 2160066560#32) (andi e (sp 2139095040#32))) : R32 Ideal) y
    = val (2160066560#32 - (e y &&& 2139095040#32)) := rfl
theorem factor_at (v : R32 Ideal) (y) : factor v y = sFactor (v y) := by
  unfold sFactor factor
  rw [← expBits_at, factor_form]
theorem half_form (f : R32 Ideal) (y : S8x128.Idx) : mulf f (spf 0x3F000000#32) y = f y * val 0x3F000000#32 := rfl
theorem halfFactor_at (v : R32 Ideal) (y) : halfFactor v y = sFactor (v y) * val 0x3F000000#32 := by
  unfold halfFactor
  rw [← factor_at, half_form]
theorem scale_form (e : W32) (v : R32 Ideal) (y : S8x128.Idx) :
    select (cmpf .oeq v (spf 0x00000000#32)) (sp 127#32) (subi (shrui e (sp 23#32)) (sp 2#32)) y
      = Scalar.select (Ideal.cmp .oeq (v y) (val 0x00000000#32)) 127#32 ((e y >>> 23) - 2#32) := rfl
theorem scaleV_at (v : R32 Ideal) (y) : scaleV v y = sScale (v y) := by
  unfold sScale scaleV
  rw [← expBits_at, scale_form]
theorem lift_at (c ch g : R32 Ideal) (y) : lift c ch g y = sLift (c y) (ch y) (g y) := rfl
theorem bitsOf_at (b : R32 Ideal) (y) : bitsOf b y = sBits (b y) := rfl
theorem code_form (b w : W32) (y : S8x128.Idx) : shrui (addi b (shrui w (sp 10#32))) (sp 22#32) y = (b y + w y >>> 10) >>> 22 := rfl
theorem code_at (w : W32) (b : R32 Ideal) (y) : code w b y = sCode (w y) (b y) := by
  unfold sCode code
  rw [← bitsOf_at, code_form]

end Cert.Proof.KI

end
-- ==== Proof.KTile.lean ====
/-
  The kernel's two products with its tables read at an index: the magnitudes moved to their rows, the signs packed.
-/
module

public import proofs.«01_k».proof.Proof.KWords

@[expose] public section

set_option maxRecDepth 16384

noncomputable section

namespace Cert.Proof.KI

open Cert.KernelIdeal Cert.KernelIdeal.Gen
open Idealize.ShloMosaic
open Cert.Proof.Quant

theorem pay4_at (A : S128x256.Idx → EReal) (P : S256x256.Idx → EReal)
    (hP : ∀ (r : Fin 256) (c : Fin 256), P (ix2 r c) = if c.val = 32 * (r.val % 8) + r.val / 8 then (1 : EReal) else 0) (r : Fin 256) (l : Fin 128) :
    k0_pay4 (F := Ideal) A P (ix2 r l) = max (A (ix2 l ⟨32 * (r.val % 8) + r.val / 8, by omega⟩)) (-A (ix2 l ⟨32 * (r.val % 8) + r.val / 8, by omega⟩)) := by
  pointwise [k0_pay4, k0_pay3]
  rw [Finset.sum_eq_single (⟨32 * (r.val % 8) + r.val / 8, by omega⟩ : Fin 256)]
  · rw [hP, if_pos rfl, one_mul]; rfl
  · intro c _ hc
    rw [hP, if_neg (fun h => hc (Fin.ext h)), zero_mul]
  · intro h; exact absurd (Finset.mem_univ _) h

theorem pay5_at (A : S128x256.Idx → EReal) (P : S64x256.Idx → EReal)
    (hP : ∀ (r : Fin 64) (c : Fin 256), P (ix2 r c) = if c.val / 4 = 8 * (r.val % 8) + r.val / 8 then (((8 * 16 ^ (c.val % 4) : ℕ) : ℝ) : EReal) else 0)
    (r : Fin 64) (l : Fin 128) (B : ℕ) (hB : B = 4 * (8 * (r.val % 8) + r.val / 8)) :
    k0_pay5 (F := Ideal) A P (ix2 r l) = BitVec.ofNat 32 (8 * neg (A (ix2 l ⟨B, by omega⟩)) + 128 * neg (A (ix2 l ⟨B + 1, by omega⟩))
      + 2048 * neg (A (ix2 l ⟨B + 2, by omega⟩)) + 32768 * neg (A (ix2 l ⟨B + 3, by omega⟩))) := by
  pointwise [k0_pay5, k0_pay3]
  let e : Fin 4 → Fin 256 := fun j => ⟨B + j.val, by omega⟩
  have he : Function.Injective e := by
    intro a b h
    have : B + a.val = B + b.val := congrArg Fin.val h
    exact Fin.ext (by omega)
  have hs : (∑ x : Fin 256, P (ix2 r x) * (if A (ix2 l x) < 0 then (1 : EReal) else 0)) = ∑ j : Fin 4, (((8 * 16 ^ j.val * neg (A (ix2 l (e j))) : ℕ) : ℝ) : EReal) := by
    rw [← Finset.sum_subset (Finset.subset_univ (Finset.univ.image e)), Finset.sum_image (fun a _ b _ h => he h)]
    · refine Finset.sum_congr rfl fun j _ => ?_
      rw [hP, if_pos (by show (B + j.val) / 4 = _; omega), show (e j).val % 4 = j.val by show (B + j.val) % 4 = _; omega]
      unfold neg
      by_cases h : A (ix2 l (e j)) < 0
      · rw [if_pos h, if_pos h, mul_one, mul_one]
      · rw [if_neg h, if_neg h, mul_zero, mul_zero]; norm_num
    · intro x _ hx
      rw [hP, if_neg, zero_mul]
      intro h
      apply hx
      rw [Finset.mem_image]
      refine ⟨⟨x.val % 4, Nat.mod_lt _ (by omega)⟩, Finset.mem_univ _, Fin.ext ?_⟩
      show B + x.val % 4 = x.val
      omega
  rw [hs, Fin.sum_univ_four]
  simp only [← EReal.coe_add, ← Nat.cast_add]
  have h0 := neg_le (A (ix2 l (e 0)))
  have h1 := neg_le (A (ix2 l (e 1)))
  have h2 := neg_le (A (ix2 l (e 2)))
  have h3 := neg_le (A (ix2 l (e 3)))
  exact Quant.fptosi_nat (8 * 1 * neg (A (ix2 l (e 0))) + 8 * 16 * neg (A (ix2 l (e 1))) + 8 * 256 * neg (A (ix2 l (e 2))) + 8 * 4096 * neg (A (ix2 l (e 3)))) (by omega)

end Cert.Proof.KI

end
-- ==== Proof.KPack.lean ====
/-
  Eight codes and eight signs in one word, and the word read back by bytes.
-/
module

public import proofs.«01_k».proof.Proof.KTile
public import Idealize.ShloMosaic.Lib.BitcastFour

@[expose] public section

noncomputable section

namespace Cert.Proof.KI

open Cert.KernelIdeal Cert.KernelIdeal.Gen
open Idealize.ShloMosaic

/-! ### Digits in base sixteen -/

theorem or16 (a b c d : ℕ) (hc : c < 16) (hd : d < 16) : (16 * a + c) ||| (16 * b + d) = 16 * (a ||| b) + (c ||| d) := by
  have h1 : ∀ x y : ℕ, y < 16 → 16 * x + y = x <<< 4 ||| y := by
    intro x y hy
    rw [← Nat.shiftLeft_add_eq_or_of_lt (by norm_num; exact hy) x, Nat.shiftLeft_eq]; omega
  have h2 : c ||| d < 16 := Nat.or_lt_two_pow (n := 4) hc hd
  rw [h1 a c hc, h1 b d hd, h1 _ _ h2, Nat.shiftLeft_or_distrib]
  ac_rfl

theorem digit (n s : ℕ) (hn : n < 8) (hs : s ≤ 1) : n ||| (8 * s) = n + 8 * s := by
  have h : ∀ (n : Fin 8) (s : Fin 2), n.val ||| (8 * s.val) = n.val + 8 * s.val := by decide
  exact h ⟨n, hn⟩ ⟨s, by omega⟩

/-- A code with its sign joined, digit by digit. -/
theorem join (a b n s : ℕ) (hn : n < 8) (hs : s ≤ 1) : (16 * a + n) ||| (16 * b + 8 * s) = 16 * (a ||| b) + (n + 8 * s) := by
  rw [or16 a b n (8 * s) (by omega) (by omega), digit n s hn hs]

theorem pair_eq (a b : ℕ) (ha : a < 65536) (hb : b < 65536) : BitVec.ofNat 32 a ||| (BitVec.ofNat 32 b <<< 16) = BitVec.ofNat 32 (a + 65536 * b) := by
  apply BitVec.eq_of_toNat_eq
  rw [BitVec.toNat_or, BitVec.toNat_shiftLeft, BitVec.toNat_ofNat, BitVec.toNat_ofNat, BitVec.toNat_ofNat, Nat.mod_eq_of_lt (a := a) (by omega), Nat.mod_eq_of_lt (a := b) (by omega)]
  have h : b <<< 16 = 65536 * b := by rw [Nat.shiftLeft_eq]; omega
  rw [h, Nat.mod_eq_of_lt (a := 65536 * b) (by omega), Nat.mod_eq_of_lt (by omega), ← h, Nat.or_comm, ← Nat.shiftLeft_add_eq_or_of_lt (by norm_num; exact ha) b]
  omega

theorem shl4 (a : ℕ) : BitVec.ofNat 32 a <<< 4 = BitVec.ofNat 32 (16 * a) := by
  apply BitVec.eq_of_toNat_eq
  rw [BitVec.toNat_shiftLeft, BitVec.toNat_ofNat, BitVec.toNat_ofNat, Nat.shiftLeft_eq]
  omega

/-- `wordOf` on words. -/
def sWord (v v' : Fin 4 → BitVec 32) (s s' : BitVec 32) : BitVec 32 :=
  ((((((v 3 ||| v' 3 <<< 16) <<< 4 + (v 2 ||| v' 2 <<< 16)) <<< 4 + (v 1 ||| v' 1 <<< 16)) <<< 4) + (v 0 ||| v' 0 <<< 16)) - 286331136#32) ||| (s ||| s' <<< 16)

theorem wordOf_at (v v' : Fin 4 → W32) (s s' : W32) (y) : wordOf v v' s s' y = sWord (fun j => v j y) (fun j => v' j y) (s y) (s' y) := rfl

/-- Four digits. -/
def four (d : Fin 4 → ℕ) : ℕ := d 0 + 16 * d 1 + 256 * d 2 + 4096 * d 3

theorem sWord_eq (n n' s s' : Fin 4 → ℕ) (hn : ∀ j, n j < 8) (hn' : ∀ j, n' j < 8) (hs : ∀ j, s j ≤ 1) (hs' : ∀ j, s' j ≤ 1) :
    sWord (fun j => BitVec.ofNat 32 (256 + n j)) (fun j => BitVec.ofNat 32 (256 + n' j)) (BitVec.ofNat 32 (8 * s 0 + 128 * s 1 + 2048 * s 2 + 32768 * s 3))
      (BitVec.ofNat 32 (8 * s' 0 + 128 * s' 1 + 2048 * s' 2 + 32768 * s' 3))
    = BitVec.ofNat 32 (four (fun j => n j + 8 * s j) + 65536 * four (fun j => n' j + 8 * s' j)) := by
  have a0 := hn 0; have a1 := hn 1; have a2 := hn 2; have a3 := hn 3
  have b0 := hn' 0; have b1 := hn' 1; have b2 := hn' 2; have b3 := hn' 3
  have c0 := hs 0; have c1 := hs 1; have c2 := hs 2; have c3 := hs 3
  have d0 := hs' 0; have d1 := hs' 1; have d2 := hs' 2; have d3 := hs' 3
  unfold sWord four
  dsimp only
  generalize n 0 = n0 at *; generalize n 1 = n1 at *; generalize n 2 = n2 at *; generalize n 3 = n3 at *
  generalize n' 0 = m0 at *; generalize n' 1 = m1 at *; generalize n' 2 = m2 at *; generalize n' 3 = m3 at *
  generalize s 0 = s0 at *; generalize s 1 = s1 at *; generalize s 2 = s2 at *; generalize s 3 = s3 at *
  generalize s' 0 = t0 at *; generalize s' 1 = t1 at *; generalize s' 2 = t2 at *; generalize s' 3 = t3 at *
  rw [pair_eq _ _ (by omega) (by omega), pair_eq _ _ (by omega) (by omega), pair_eq _ _ (by omega) (by omega), pair_eq _ _ (by omega) (by omega),
    pair_eq _ _ (by omega) (by omega), shl4, ← BitVec.ofNat_add, shl4, ← BitVec.ofNat_add, shl4, ← BitVec.ofNat_add]
  have hx : BitVec.ofNat 32 (16 * (16 * (16 * (256 + n3 + 65536 * (256 + m3)) + (256 + n2 + 65536 * (256 + m2))) + (256 + n1 + 65536 * (256 + m1))) + (256 + n0 + 65536 * (256 + m0))) - 286331136#32
      = BitVec.ofNat 32 (16 * (16 * (16 * (16 * (16 * (16 * (16 * m3 + m2) + m1) + m0) + n3) + n2) + n1) + n0) := by
    rw [BitVec.sub_eq_iff_eq_add, ← BitVec.ofNat_add]
    apply BitVec.eq_of_toNat_eq
    rw [BitVec.toNat_ofNat, BitVec.toNat_ofNat]
    omega
  rw [hx]
  apply BitVec.eq_of_toNat_eq
  rw [BitVec.toNat_or, BitVec.toNat_ofNat, BitVec.toNat_ofNat, BitVec.toNat_ofNat, Nat.mod_eq_of_lt (by omega), Nat.mod_eq_of_lt (by omega), Nat.mod_eq_of_lt (by omega)]
  rw [show 8 * s0 + 128 * s1 + 2048 * s2 + 32768 * s3 + 65536 * (8 * t0 + 128 * t1 + 2048 * t2 + 32768 * t3)
    = 16 * (16 * (16 * (16 * (16 * (16 * (16 * (8 * t3) + 8 * t2) + 8 * t1) + 8 * t0) + 8 * s3) + 8 * s2) + 8 * s1) + 8 * s0 by omega]
  rw [join _ _ _ _ a0 c0, join _ _ _ _ a1 c1, join _ _ _ _ a2 c2, join _ _ _ _ a3 c3, join _ _ _ _ b0 d0, join _ _ _ _ b1 d1, join _ _ _ _ b2 d2, digit _ _ b3 d3]
  omega

/-- Byte `b` of such a word is two digits. -/
theorem byte_eq (d d' : Fin 4 → ℕ) (hd : ∀ j, d j < 16) (hd' : ∀ j, d' j < 16) (h : Fin 2) (q : Fin 2) :
    (BitVec.ofNat 32 (four d + 65536 * four d')).extractLsb' (8 * (2 * h.val + q.val)) 8
      = BitVec.ofNat 8 ((![d, d'] : Fin 2 → Fin 4 → ℕ) h ⟨2 * q.val, by omega⟩ + 16 * (![d, d'] : Fin 2 → Fin 4 → ℕ) h ⟨2 * q.val + 1, by omega⟩) := by
  have a0 := hd 0; have a1 := hd 1; have a2 := hd 2; have a3 := hd 3
  have b0 := hd' 0; have b1 := hd' 1; have b2 := hd' 2; have b3 := hd' 3
  apply BitVec.eq_of_toNat_eq
  rw [BitVec.extractLsb'_toNat, BitVec.toNat_ofNat, BitVec.toNat_ofNat, Nat.shiftRight_eq_div_pow]
  unfold four
  fin_cases h <;> fin_cases q
  · show (d 0 + 16 * d 1 + 256 * d 2 + 4096 * d 3 + 65536 * (d' 0 + 16 * d' 1 + 256 * d' 2 + 4096 * d' 3)) % 2 ^ 32 / 2 ^ 0 % 2 ^ 8 = (d 0 + 16 * d 1) % 2 ^ 8
    omega
  · show (d 0 + 16 * d 1 + 256 * d 2 + 4096 * d 3 + 65536 * (d' 0 + 16 * d' 1 + 256 * d' 2 + 4096 * d' 3)) % 2 ^ 32 / 2 ^ 8 % 2 ^ 8 = (d 2 + 16 * d 3) % 2 ^ 8
    omega
  · show (d 0 + 16 * d 1 + 256 * d 2 + 4096 * d 3 + 65536 * (d' 0 + 16 * d' 1 + 256 * d' 2 + 4096 * d' 3)) % 2 ^ 32 / 2 ^ 16 % 2 ^ 8 = (d' 0 + 16 * d' 1) % 2 ^ 8
    omega
  · show (d 0 + 16 * d 1 + 256 * d 2 + 4096 * d 3 + 65536 * (d' 0 + 16 * d' 1 + 256 * d' 2 + 4096 * d' 3)) % 2 ^ 32 / 2 ^ 24 % 2 ^ 8 = (d' 2 + 16 * d' 3) % 2 ^ 8
    omega

/-- Words read at eight bits: row `r` of a column is byte `r % 4` of row `r / 4`. -/
theorem bitcast_32_8 (x : S32x128.Idx → BitVec 32) (h : S32x128.Bitcasts 32 S128x128 8) (r l : Fin 128) :
    bitcast S128x128 8 x h (ix2 r l) = (x (ix2 (⟨r.val / 4, by omega⟩ : Fin 32) l)).extractLsb' (8 * (r.val % 4)) 8 := by
  have hrow : S128x128.row (ix2 r l) = r.val := rfl
  apply BitVec.eq_of_getLsbD_eq
  intro i hi
  rw [bitcast_getLsbD x h _ i hi (by decide), BitVec.getLsbD_extractLsb']
  have ep : (S128x128.row (ix2 r l) * 8 + i) / 32 = r.val / 4 := by rw [hrow]; omega
  have eq : (S128x128.row (ix2 r l) * 8 + i) % 32 = 8 * (r.val % 4) + i := by rw [hrow]; omega
  rw [eq]
  simp only [hi, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

end Cert.Proof.KI

end
-- ==== Proof.Spec.lean ====
/-
  What both programs return: one row of the input gives its bytes of codes and its scales.
-/
module

public import proofs.«01_k».proof.Proof.Quant
public import proofs.«01_k».proof.Proof.Philox

@[expose] public section

noncomputable section

namespace Cert.Proof.Spec

open Idealize.ShloMosaic
open Cert.Proof.Quant

/-- A magnitude of a row. -/
def mag (x : ℕ → EReal) (d : ℕ) : EReal := max (x d) (-x d)
/-- The largest magnitude of a group of 32. -/
def top (x : ℕ → EReal) (g : ℕ) : EReal := (Finset.univ : Finset (Fin 32)).fold max ⊥ fun n => mag x (32 * g + n.val)
/-- The draw of element `d` of row `T`. -/
def draw (k0 k1 : BitVec 32) (T d : ℕ) : BitVec 32 :=
  (Philox.philox (BitVec.ofNat 32 (T * 7392 + d / 4)) k0 k1 10).word ⟨d % 4, Nat.mod_lt _ (by omega)⟩
/-- An element over its group's scale. -/
def unit (x : ℕ → EReal) (d : ℕ) : EReal := rA (mag x d) (top x (d / 32))
/-- The four bits of an element. -/
def nib (x : ℕ → EReal) (k0 k1 : BitVec 32) (T d : ℕ) : BitVec 32 :=
  rCode (unit x d) (draw k0 k1 T d) ||| Scalar.select (Ideal.cmp .olt (x d) (val 0x00000000#32)) 8#32 0#32
/-- The byte of two elements. -/
def byte (x : ℕ → EReal) (k0 k1 : BitVec 32) (T j : ℕ) : BitVec 8 :=
  (nib x k0 k1 T (2 * j) ||| nib x k0 k1 T (2 * j + 1) <<< 4).setWidth 8
/-- The scale of a group. -/
def scale (x : ℕ → EReal) (g : ℕ) : BitVec 8 := (rE (top x g) + 127#32).setWidth 8

/-- What is asked of a row: its groups' largest magnitudes nought or in range, its fractions held by 22 bits. -/
structure Ok (x : ℕ → EReal) : Prop where
  range : ∀ g, g < 924 → top x g = 0 ∨ (val 0x01800000#32 ≤ top x g ∧ top x g ≤ val 0x7F7FFFFF#32)
  exact : ∀ d, d < 29568 → Exact (rFrac (unit x d))

theorem mag_nonneg (x : ℕ → EReal) (d : ℕ) : 0 ≤ mag x d := by
  unfold mag
  rcases le_total 0 (x d) with h | h
  · exact le_max_of_le_left h
  · exact le_max_of_le_right (by simpa using EReal.neg_le_neg_iff.2 h)

theorem mag_le_top (x : ℕ → EReal) (d : ℕ) : mag x d ≤ top x (d / 32) := by
  unfold top
  rw [Finset.le_fold_max]
  refine Or.inr ⟨⟨d % 32, Nat.mod_lt _ (by omega)⟩, Finset.mem_univ _, ?_⟩
  show mag x d ≤ mag x (32 * (d / 32) + d % 32)
  rw [Nat.div_add_mod]

theorem top_cases {v : EReal} (h : v = 0 ∨ (val 0x01800000#32 ≤ v ∧ v ≤ val 0x7F7FFFFF#32)) :
    ∃ r : ℝ, v = (r : EReal) ∧ (r = 0 ∨ ∃ E, 3 ≤ E ∧ IsExp r E) := by
  rcases h with h | ⟨hl, hu⟩
  · exact ⟨0, h, Or.inl rfl⟩
  · have hlt := lt_of_le_of_lt hu val_max
    rw [val_min] at hl
    have h1 : v ≠ ⊤ := fun e => by rw [e] at hlt; exact absurd hlt (not_lt.2 le_top)
    have h2 : v ≠ ⊥ := fun e => by rw [e] at hl; exact absurd (le_bot_iff.1 hl) (EReal.coe_ne_bot _)
    lift v to ℝ using ⟨h1, h2⟩
    rw [EReal.coe_le_coe_iff] at hl
    rw [EReal.coe_lt_coe_iff] at hlt
    exact ⟨v, rfl, Or.inr (exists_exp v hl hlt)⟩

theorem Ok.group {x : ℕ → EReal} (h : Ok x) (d : ℕ) (hd : d < 29568) :
    ∃ g v : ℝ, mag x d = (g : EReal) ∧ top x (d / 32) = (v : EReal) ∧ Group g v := by
  obtain ⟨v, hv, hc⟩ := top_cases (h.range (d / 32) (by omega))
  have h0 := mag_nonneg x d
  have h1 := mag_le_top x d
  rw [hv] at h1
  obtain ⟨g, hg⟩ : ∃ g : ℝ, mag x d = (g : EReal) := by
    generalize mag x d = w at h0 h1
    have n1 : w ≠ ⊤ := fun e => by rw [e] at h1; exact absurd (top_le_iff.1 h1) (EReal.coe_ne_top _)
    have n2 : w ≠ ⊥ := fun e => by rw [e] at h0; exact absurd (le_bot_iff.1 h0) EReal.zero_ne_bot
    lift w to ℝ using ⟨n1, n2⟩
    exact ⟨w, rfl⟩
  rw [hg] at h0 h1
  exact ⟨g, v, hg, hv, ⟨by exact_mod_cast h0, by exact_mod_cast h1, hc⟩⟩

/-- The kernel's code of an element, from its lifted value and its complemented draw, against the four bits. -/
theorem Ok.code {x : ℕ → EReal} (h : Ok x) (k0 k1 : BitVec 32) (T d : ℕ) (hd : d < 29568) :
    ∃ N : ℕ, N < 8 ∧ nib x k0 k1 T d = BitVec.ofNat 32 (N + 8 * neg (x d))
      ∧ sCode (draw k0 k1 T d ^^^ 4294967295#32)
          (sLift (sFactor (top x (d / 32))) (sFactor (top x (d / 32)) * val 0x3F000000#32) (mag x d)) = BitVec.ofNat 32 (256 + N) := by
  obtain ⟨g, v, hg, hv, hG⟩ := h.group d hd
  obtain ⟨a, ha0, ha6, hA, hL⟩ := values hG
  have he := h.exact d hd
  unfold unit at he
  rw [hg, hv, hA] at he
  obtain ⟨N, hN, hr, hs⟩ := code_eq ha0 ha6 he (draw k0 k1 T d)
  refine ⟨N, hN, ?_, ?_⟩
  · unfold nib unit
    rw [hg, hv, hA, hr, val_0]
    have hb : ∀ (n : Fin 8) (b : Bool), BitVec.ofNat 32 n.val ||| Scalar.select (BitVec.ofBool b) 8#32 0#32 = BitVec.ofNat 32 (n.val + 8 * (if b then 1 else 0)) := by decide
    have := hb ⟨N, hN⟩ (decide (x d < 0))
    show BitVec.ofNat 32 N ||| Scalar.select (BitVec.ofBool (decide (x d < 0))) 8#32 0#32 = _
    unfold neg
    simpa using this
  · rw [hg, hv, hL, hs]

theorem Ok.scale {x : ℕ → EReal} (h : Ok x) (g : ℕ) (hg : g < 924) : (sScale (top x g)).setWidth 8 = scale x g := by
  obtain ⟨v, hv, hc⟩ := top_cases (h.range g hg)
  unfold Spec.scale
  rw [hv]
  rcases hc with rfl | ⟨E, _, hE⟩
  · exact scale_zero
  · exact scale_eq hE

/-- Two codes of four bits in a byte. -/
theorem byte_of {x : ℕ → EReal} {k0 k1 : BitVec 32} {T j : ℕ} {a b : ℕ} (ha : a < 16) (hb : b < 16)
    (h0 : nib x k0 k1 T (2 * j) = BitVec.ofNat 32 a) (h1 : nib x k0 k1 T (2 * j + 1) = BitVec.ofNat 32 b) :
    byte x k0 k1 T j = BitVec.ofNat 8 (a + 16 * b) := by
  unfold byte
  rw [h0, h1]
  have h : ∀ a b : Fin 16, (BitVec.ofNat 32 a.val ||| BitVec.ofNat 32 b.val <<< 4).setWidth 8 = BitVec.ofNat 8 (a.val + 16 * b.val) := by decide +kernel
  exact h ⟨a, ha⟩ ⟨b, hb⟩

end Cert.Proof.Spec

end
-- ==== Proof.KTrip.lean ====
/-
  One trip of the kernel, read at an index: the bytes and the scales of its 256 columns are those of the rows.
-/
module

public import proofs.«01_k».proof.Proof.KPack
public import proofs.«01_k».proof.Proof.Spec

@[expose] public section

set_option maxRecDepth 16384

noncomputable section

namespace Cert.Proof.KI

open Cert.KernelIdeal Cert.KernelIdeal.Gen
open Idealize.ShloMosaic
open Cert.Proof.Quant Cert.Proof.Spec

/-- The first column of a trip. -/
def start (k : ℕ) : ℕ := min (256 * k) 29312

theorem off1_eq : ∀ k : Fin k0_t1_loop.trips, k0_off1 k = ![0, start k.val] := by unfold start; decide +kernel
theorem quarter_eq : ∀ k : Fin k0_t1_loop.trips, trip.sl.v193 k = BitVec.ofNat 32 (start k.val / 4) := by unfold start; decide +kernel

/-- A row of a block, read past its end as nought. -/
def rowOf (X : S128x29568.Idx → EReal) (l : Fin 128) : ℕ → EReal := fun d => if h : d < 29568 then X (ix2 l ⟨d, h⟩) else 0

/-- The counter of a trip's first run. -/
theorem counter_at (i : grid0.Coords) (k : Fin k0_t1_loop.trips) (s : Fin 8) (l : Fin 128) :
    trip.sl.v195 i k (ix2 s l) = BitVec.ofNat 32 ((128 * (i 0).val + l.val) * 7392 + 8 * s.val + start k.val / 4) := by
  show k0_pay1 i (ix2 s l) + trip.sl.v193 k = _
  rw [quarter_eq]
  have h : k0_pay1 i (ix2 s l) = (BitVec.ofNat 32 l.val + BitVec.ofNat 32 (i 0).val * 128#32) * 7392#32 + BitVec.ofNat 32 s.val * 8#32 := by
    pointwise [k0_pay1]
    try rfl
  rw [h]
  rw [show (128#32) = BitVec.ofNat 32 128 from rfl, show (7392#32) = BitVec.ofNat 32 7392 from rfl, show (8#32) = BitVec.ofNat 32 8 from rfl]
  simp only [← BitVec.ofNat_mul, ← BitVec.ofNat_add]
  congr 1; ring

section
variable (c : Dev nD) (i : grid0.Coords) (arg2 : Memref sig .tc .vmem S128x29568 .bf16) (arg3 : Memref sig .tc .vmem S256x256 .bf16) (arg4 : Memref sig .tc .vmem S64x256 .bf16) (arg7 : Memref sig .tc .vmem S256x128 .f32) (v0 v1 : BitVec 32)
    (f2 : Bf (F := Ideal) c arg2) (f3 : Bf (F := Ideal) c arg3) (f4 : Bf (F := Ideal) c arg4) (k : Fin k0_t1_loop.trips)
    (X : S128x29568.Idx → EReal) (h2 : arg2.view.read (Elt Ideal) f2 = X)
    (h3 : ∀ (r : Fin 256) (q : Fin 256), arg3.view.read (Elt Ideal) f3 (ix2 r q) = if q.val = 32 * (r.val % 8) + r.val / 8 then (1 : EReal) else 0)
    (h4 : ∀ (r : Fin 64) (q : Fin 256), arg4.view.read (Elt Ideal) f4 (ix2 r q) = if q.val / 4 = 8 * (r.val % 8) + r.val / 8 then (((8 * 16 ^ (q.val % 4) : ℕ) : ℝ) : EReal) else 0)

/-- The trip's 256 columns. -/
def cols : S128x256.Idx → EReal :=
  View.readAt (Elt Ideal) arg2.view (Rect.unit (s := S128x29568) (k0_off1 k) S128x256.size (k0_off1_inb k)).toLoadRect f2

include h2 in
theorem cols_at (l : Fin 128) (q : Fin 256) : cols c arg2 f2 k (ix2 l q) = rowOf X l (start k.val + q.val) := by
  have hlt : start k.val + q.val < 29568 := by unfold start; omega
  unfold cols rowOf
  rw [View.readAt_apply, h2, dif_pos hlt]
  congr 1
  funext a
  have ho := off1_eq k
  fin_cases a
  · apply Fin.ext
    show k0_off1 k 0 + 1 * l.val = l.val
    rw [ho]; show 0 + 1 * l.val = l.val; omega
  · apply Fin.ext
    show k0_off1 k 1 + 1 * q.val = start k.val + q.val
    rw [ho]; show start k.val + 1 * q.val = _; omega

include h2 h3 in
theorem gRow_at (n : Fin 32) (h) (s : Fin 8) (l : Fin 128) :
    gRow c arg2 arg3 arg7 f2 f3 k n.val h (ix2 s l) = mag (rowOf X l) (start k.val + 32 * s.val + n.val) := by
  rw [gRow_eq]
  have hi : (Rect.unit (s := S256x128) ![8 * n.val, 0] S8x128.size h).toLoadRect.idx (ix2 s l) = ix2 (⟨8 * n.val + s.val, by omega⟩ : Fin 256) l := by
    funext a
    fin_cases a
    · apply Fin.ext; show 8 * n.val + 1 * s.val = 8 * n.val + s.val; omega
    · apply Fin.ext; show 0 + 1 * l.val = l.val; omega
  show gTile c arg2 arg3 f2 f3 k _ = _
  rw [hi]
  show k0_pay4 (F := Ideal) (cols c arg2 f2 k) _ _ = _
  rw [pay4_at _ _ ?_ _ _]
  · rw [cols_at c arg2 f2 k X h2]
    unfold mag
    have he : start k.val + (32 * ((8 * n.val + s.val) % 8) + (8 * n.val + s.val) / 8) = start k.val + 32 * s.val + n.val := by omega
    simp only [he]
  · intro r q
    rw [View.readAt_apply, ← h3 r q]
    congr 1
    funext a
    fin_cases a
    · apply Fin.ext; show 0 + 1 * r.val = r.val; omega
    · apply Fin.ext; show 0 + 1 * q.val = q.val; omega

/-- Trips begin at a group. -/
theorem start_mod (k : ℕ) : start k % 32 = 0 := by unfold start; omega

include h2 h3 in
theorem amax_at (s : Fin 8) (l : Fin 128) : amaxV c arg2 arg3 arg7 f2 f3 k (ix2 s l) = top (rowOf X l) (start k.val / 32 + s.val) := by
  have hm := start_mod k.val
  have hd : ∀ n : Fin 32, 32 * (start k.val / 32 + s.val) + n.val = start k.val + 32 * s.val + n.val := by intro n; omega
  have hr := fun n : Fin 32 => gRow_at c arg2 arg3 arg7 f2 f3 k X h2 h3 n (row_inb n) s l
  have hle : ∀ (n : ℕ) (hn : n < 32) (j : Fin 32), j.val ≤ n → mag (rowOf X l) (start k.val + 32 * s.val + j.val) ≤ amaxTo c arg2 arg3 arg7 f2 f3 k n hn (ix2 s l) := by
    intro n
    induction n with
    | zero => intro hn j hj; have : j = ⟨0, hn⟩ := Fin.ext (by show j.val = 0; omega); subst this; exact (hr ⟨0, hn⟩).symm.le
    | succ n ih =>
      intro hn j hj
      show _ ≤ max (amaxTo c arg2 arg3 arg7 f2 f3 k n _ (ix2 s l)) (gRow c arg2 arg3 arg7 f2 f3 k (n + 1) _ (ix2 s l))
      rcases Nat.lt_or_ge j.val (n + 1) with h | h
      · exact le_max_of_le_left (ih _ j (by omega))
      · have : j = ⟨n + 1, hn⟩ := Fin.ext (by show j.val = n + 1; omega)
        subst this; exact le_max_of_le_right (hr ⟨n + 1, hn⟩).symm.le
  have hge : ∀ (n : ℕ) (hn : n < 32), amaxTo c arg2 arg3 arg7 f2 f3 k n hn (ix2 s l) ≤ top (rowOf X l) (start k.val / 32 + s.val) := by
    have hone : ∀ j : Fin 32, mag (rowOf X l) (start k.val + 32 * s.val + j.val) ≤ top (rowOf X l) (start k.val / 32 + s.val) := by
      intro j
      unfold top
      rw [Finset.le_fold_max]
      exact Or.inr ⟨j, Finset.mem_univ _, by rw [hd]⟩
    intro n
    induction n with
    | zero => intro hn; exact (hr ⟨0, hn⟩).le.trans (hone ⟨0, hn⟩)
    | succ n ih =>
      intro hn
      show max (amaxTo c arg2 arg3 arg7 f2 f3 k n _ (ix2 s l)) (gRow c arg2 arg3 arg7 f2 f3 k (n + 1) _ (ix2 s l)) ≤ _
      exact max_le (ih _) ((hr ⟨n + 1, hn⟩).le.trans (hone ⟨n + 1, hn⟩))
  apply le_antisymm (hge 31 (by omega))
  unfold top
  rw [Finset.fold_max_le]
  refine ⟨bot_le, fun j _ => ?_⟩
  rw [hd]
  exact hle 31 (by omega) j (by omega)

include h2 h3 in
/-- A code of a trip, from the row's element. -/
theorem codeAt_at (m : Fin 8) (j : Fin 4) (s : Fin 8) (l : Fin 128) (hi : (i 0).val < 12) (d T : ℕ) (hd : d = start k.val + 32 * s.val + 4 * m.val + j.val) (hT : T = 128 * (i 0).val + l.val) :
    codeAt c i arg2 arg3 arg7 v0 v1 f2 f3 k m j (ix2 s l)
      = sCode (draw v0 v1 T d ^^^ 4294967295#32)
          (sLift (sFactor (top (rowOf X l) (d / 32))) (sFactor (top (rowOf X l) (d / 32)) * val 0x3F000000#32) (mag (rowOf X l) d)) := by
  have hm := start_mod k.val
  have hs : start k.val ≤ 29312 := by unfold start; omega
  unfold codeAt
  rw [code_at, lift_at, draws_at, factor_eq, halfFactor_eq, factor_at, halfFactor_at, amax_at c arg2 arg3 arg7 f2 f3 k X h2 h3, counter_at]
  · rw [gRow_at c arg2 arg3 arg7 f2 f3 k X h2 h3 ⟨4 * m.val + j.val, by omega⟩]
    have e1 : start k.val / 32 + s.val = d / 32 := by omega
    have e2 : start k.val + 32 * s.val + (4 * m.val + j.val) = d := by omega
    have e3 : draw v0 v1 T d = (Philox.philox (BitVec.ofNat 32 ((128 * (i 0).val + l.val) * 7392 + 8 * s.val + start k.val / 4) + BitVec.ofNat 32 m.val) v0 v1 10).word j := by
      unfold draw
      rw [← BitVec.ofNat_add]
      have ha : T * 7392 + d / 4 = (128 * (i 0).val + l.val) * 7392 + 8 * s.val + start k.val / 4 + m.val := by rw [hT]; omega
      have hb : (⟨d % 4, Nat.mod_lt _ (by omega)⟩ : Fin 4) = j := Fin.ext (by show d % 4 = j.val; omega)
      rw [ha, hb]
    rw [e1, e3]
    simp only [e2]
  · rw [counter_at, BitVec.toNat_ofNat, Nat.mod_eq_of_lt (by omega)]; omega

include h2 h4 in
theorem signAt_at (m : Fin 8) (s : Fin 8) (l : Fin 128) (B : ℕ) (hB : B = start k.val + 32 * s.val + 4 * m.val) :
    signAt c arg2 arg4 f2 f4 k m (ix2 s l) = BitVec.ofNat 32 (8 * neg (rowOf X l B) + 128 * neg (rowOf X l (B + 1)) + 2048 * neg (rowOf X l (B + 2)) + 32768 * neg (rowOf X l (B + 3))) := by
  unfold signAt
  rw [sign_eq]
  have hi : extractStridedSlice S8x128 ![8 * m.val, 0] (k0_pay5 (F := Ideal) (cols c arg2 f2 k) (View.readAt (Elt Ideal) arg4.view (Rect.unit (s := S64x256) ![0, 0] S64x256.size inb_S64x256_S64x256_0_0).toLoadRect f4)) (sign_slices m) (ix2 s l)
      = k0_pay5 (F := Ideal) (cols c arg2 f2 k) (View.readAt (Elt Ideal) arg4.view (Rect.unit (s := S64x256) ![0, 0] S64x256.size inb_S64x256_S64x256_0_0).toLoadRect f4) (ix2 (⟨8 * m.val + s.val, by omega⟩ : Fin 64) l) := by
    unfold extractStridedSlice
    congr 1
    funext a
    fin_cases a
    · apply Fin.ext; show 8 * m.val + s.val = 8 * m.val + s.val; rfl
    · apply Fin.ext; show 0 + l.val = l.val; omega
  refine hi.trans ?_
  rw [pay5_at _ _ ?_ _ _ (32 * s.val + 4 * m.val) (by show _ = 4 * (8 * ((8 * m.val + s.val) % 8) + (8 * m.val + s.val) / 8); omega)]
  · rw [cols_at c arg2 f2 k X h2, cols_at c arg2 f2 k X h2, cols_at c arg2 f2 k X h2, cols_at c arg2 f2 k X h2, hB]
    simp only [Nat.add_assoc]
  · intro r q
    rw [View.readAt_apply, ← h4 r q]
    congr 1
    funext a
    fin_cases a
    · apply Fin.ext; show 0 + 1 * r.val = r.val; omega
    · apply Fin.ext; show 0 + 1 * q.val = q.val; omega

include h2 h3 h4 in
/-- A word of a trip holds eight elements' bits. -/
theorem wordAt_at (l : Fin 128) (N : ℕ → ℕ) (hN8 : ∀ d, d < 29568 → N d < 8)
    (T : ℕ) (hT : T = 128 * (i 0).val + l.val) (hi : (i 0).val < 12)
    (hNc : ∀ d, d < 29568 → sCode (draw v0 v1 T d ^^^ 4294967295#32)
          (sLift (sFactor (top (rowOf X l) (d / 32))) (sFactor (top (rowOf X l) (d / 32)) * val 0x3F000000#32) (mag (rowOf X l) d)) = BitVec.ofNat 32 (256 + N d))
    (p : Fin 4) (s : Fin 8) (B : ℕ) (hB : B = start k.val + 32 * s.val + 8 * p.val) :
    wordAt c i arg2 arg3 arg4 arg7 v0 v1 f2 f3 f4 k p (ix2 s l)
      = BitVec.ofNat 32 (four (fun j => N (B + j.val) + 8 * neg (rowOf X l (B + j.val))) + 65536 * four (fun j => N (B + 4 + j.val) + 8 * neg (rowOf X l (B + 4 + j.val)))) := by
  have hs : start k.val ≤ 29312 := by unfold start; omega
  unfold wordAt
  rw [wordOf_at, signAt_at c arg2 arg4 f2 f4 k X h2 h4 _ s l B (by show B = start k.val + 32 * s.val + 4 * (2 * p.val); omega),
    signAt_at c arg2 arg4 f2 f4 k X h2 h4 _ s l (B + 4) (by show B + 4 = start k.val + 32 * s.val + 4 * (2 * p.val + 1); omega)]
  have hA : (fun j : Fin 4 => codeAt c i arg2 arg3 arg7 v0 v1 f2 f3 k ⟨2 * p.val, by omega⟩ j (ix2 s l)) = fun j : Fin 4 => BitVec.ofNat 32 (256 + N (B + j.val)) := by
    funext j
    rw [codeAt_at c i arg2 arg3 arg7 v0 v1 f2 f3 k X h2 h3 _ j s l hi (B + j.val) T (by show _ = start k.val + 32 * s.val + 4 * (2 * p.val) + j.val; omega) hT, hNc _ (by omega)]
  have hA' : (fun j : Fin 4 => codeAt c i arg2 arg3 arg7 v0 v1 f2 f3 k ⟨2 * p.val + 1, by omega⟩ j (ix2 s l)) = fun j : Fin 4 => BitVec.ofNat 32 (256 + N (B + 4 + j.val)) := by
    funext j
    rw [codeAt_at c i arg2 arg3 arg7 v0 v1 f2 f3 k X h2 h3 _ j s l hi (B + 4 + j.val) T (by show _ = start k.val + 32 * s.val + 4 * (2 * p.val + 1) + j.val; omega) hT, hNc _ (by omega)]
  rw [hA, hA']
  exact sWord_eq (fun j => N (B + j.val)) (fun j => N (B + 4 + j.val)) (fun j => neg (rowOf X l (B + j.val))) (fun j => neg (rowOf X l (B + 4 + j.val)))
    (fun j => hN8 _ (by omega)) (fun j => hN8 _ (by omega)) (fun j => neg_le _) (fun j => neg_le _)

include h2 h3 h4 in
/-- A byte of a trip is the row's. -/
theorem tripCodes_at (r l : Fin 128) (hok : Ok (rowOf X l)) (T : ℕ) (hT : T = 128 * (i 0).val + l.val) (hi : (i 0).val < 12) (J : ℕ) (hJ : J = start k.val / 2 + r.val) :
    tripCodes c i arg2 arg3 arg4 arg7 v0 v1 f2 f3 f4 k (ix3 (0 : Fin 1) r l) = byte (rowOf X l) v0 v1 T J := by
  have hm := start_mod k.val
  have hs : start k.val ≤ 29312 := by unfold start; omega
  have hch : ∀ d, ∃ N : ℕ, d < 29568 → (N < 8 ∧ nib (rowOf X l) v0 v1 T d = BitVec.ofNat 32 (N + 8 * neg (rowOf X l d))
      ∧ sCode (draw v0 v1 T d ^^^ 4294967295#32)
          (sLift (sFactor (top (rowOf X l) (d / 32))) (sFactor (top (rowOf X l) (d / 32)) * val 0x3F000000#32) (mag (rowOf X l) d)) = BitVec.ofNat 32 (256 + N)) := by
    intro d
    by_cases hd : d < 29568
    · obtain ⟨N, h⟩ := hok.code v0 v1 T d hd; exact ⟨N, fun _ => h⟩
    · exact ⟨0, fun h => absurd h hd⟩
  choose N hN using hch
  have hd : ∀ d, d < 29568 → N d + 8 * neg (rowOf X l d) < 16 := fun d h => by have := (hN d h).1; have := neg_le (rowOf X l d); omega
  rw [byte_of (hd (2 * J) (by omega)) (hd (2 * J + 1) (by omega)) (hN (2 * J) (by omega)).2.1 (hN (2 * J + 1) (by omega)).2.1]
  unfold tripCodes k0_pay2
  have hsc : shapeCast S1x128x128 (bitcast S128x128 8 (tripWords c i arg2 arg3 arg4 arg7 v0 v1 f2 f3 f4 k) (by decide)) shapeCasts_S128x128_S1x128x128 (ix3 (0 : Fin 1) r l)
      = bitcast S128x128 8 (tripWords c i arg2 arg3 arg4 arg7 v0 v1 f2 f3 f4 k) (by decide) (ix2 r l) := by
    pointwise
  refine hsc.trans ?_
  rw [bitcast_32_8]
  have hw : tripWords c i arg2 arg3 arg4 arg7 v0 v1 f2 f3 f4 k (ix2 (⟨r.val / 4, by omega⟩ : Fin 32) l)
      = wordAt c i arg2 arg3 arg4 arg7 v0 v1 f2 f3 f4 k ⟨r.val / 4 % 4, by omega⟩ (ix2 (⟨r.val / 4 / 4, by omega⟩ : Fin 8) l) := by
    unfold tripWords words
    rw [word_0, word_1, word_2, word_3]
    have hix : (fun
      | ⟨0, _⟩ => ⟨((ix2 (⟨r.val / 4, by omega⟩ : Fin 32) l : S32x128.Idx) 0).val / 4, by show r.val / 4 / 4 < 8; omega⟩
      | ⟨1, _⟩ => ⟨((ix2 (⟨r.val / 4, by omega⟩ : Fin 32) l : S32x128.Idx) 1).val, l.isLt⟩
      | ⟨_ + 2, h⟩ => absurd h (Nat.not_lt.2 (Nat.le_add_left _ _)) : S8x128.Idx) = ix2 (⟨r.val / 4 / 4, by omega⟩ : Fin 8) l := by
      funext a; fin_cases a <;> rfl
    have hq : ∀ q : Fin 4, (![wordAt c i arg2 arg3 arg4 arg7 v0 v1 f2 f3 f4 k 0, wordAt c i arg2 arg3 arg4 arg7 v0 v1 f2 f3 f4 k 1, wordAt c i arg2 arg3 arg4 arg7 v0 v1 f2 f3 f4 k 2, wordAt c i arg2 arg3 arg4 arg7 v0 v1 f2 f3 f4 k 3] : Fin 4 → S8x128.Idx → BitVec 32) q
        = wordAt c i arg2 arg3 arg4 arg7 v0 v1 f2 f3 f4 k q := by intro q; fin_cases q <;> rfl
    refine (congrFun (hq _) _).trans ?_
    exact congrArg _ hix
  rw [hw]
  obtain ⟨B, hB⟩ : ∃ B, B = start k.val + 32 * (r.val / 4 / 4) + 8 * (r.val / 4 % 4) := ⟨_, rfl⟩
  rw [wordAt_at c i arg2 arg3 arg4 arg7 v0 v1 f2 f3 f4 k X h2 h3 h4 l N (fun d h => (hN d h).1) T hT hi (fun d h => (hN d h).2.2) _ _ B hB]
  have hby := byte_eq (fun j => N (B + j.val) + 8 * neg (rowOf X l (B + j.val))) (fun j => N (B + 4 + j.val) + 8 * neg (rowOf X l (B + 4 + j.val)))
    (fun j => hd _ (by omega)) (fun j => hd _ (by omega)) ⟨r.val % 4 / 2, by omega⟩ ⟨r.val % 2, by omega⟩
  have hsplit : 8 * (r.val % 4) = 8 * (2 * (r.val % 4 / 2) + r.val % 2) := by omega
  rw [hsplit]
  refine hby.trans ?_
  congr 1
  rcases Nat.lt_or_ge (r.val % 4) 2 with h | h
  · have e : (⟨r.val % 4 / 2, by omega⟩ : Fin 2) = 0 := Fin.ext (by show r.val % 4 / 2 = 0; omega)
    rw [e]
    show N (B + 2 * (r.val % 2)) + 8 * neg (rowOf X l (B + 2 * (r.val % 2))) + 16 * (N (B + (2 * (r.val % 2) + 1)) + 8 * neg (rowOf X l (B + (2 * (r.val % 2) + 1)))) = _
    rw [show B + 2 * (r.val % 2) = 2 * J by omega, show B + (2 * (r.val % 2) + 1) = 2 * J + 1 by omega]
  · have e : (⟨r.val % 4 / 2, by omega⟩ : Fin 2) = 1 := Fin.ext (by show r.val % 4 / 2 = 1; omega)
    rw [e]
    show N (B + 4 + 2 * (r.val % 2)) + 8 * neg (rowOf X l (B + 4 + 2 * (r.val % 2))) + 16 * (N (B + 4 + (2 * (r.val % 2) + 1)) + 8 * neg (rowOf X l (B + 4 + (2 * (r.val % 2) + 1)))) = _
    rw [show B + 4 + 2 * (r.val % 2) = 2 * J by omega, show B + 4 + (2 * (r.val % 2) + 1) = 2 * J + 1 by omega]

include h2 h3 in
theorem tripScales_at (s : Fin 8) (l : Fin 128) :
    tripScales c arg2 arg3 arg7 f2 f3 k (ix3 (0 : Fin 1) s l) = sScale (top (rowOf X l) (start k.val / 32 + s.val)) := by
  have h : tripScales c arg2 arg3 arg7 f2 f3 k (ix3 (0 : Fin 1) s l) = trip.sl.v155 c arg2 arg3 arg7 f2 f3 k (ix2 s l) := by
    unfold tripScales trip.sl.v176
    generalize trip.sl.v155 c arg2 arg3 arg7 f2 f3 k = w
    pointwise
  rw [h, scales_eq, scaleV_at, amax_at c arg2 arg3 arg7 f2 f3 k X h2 h3]

include h2 h3 h4 in
/-- The codes' block after a point. -/
theorem codesAt_at (R : Fin 14784) (l : Fin 128) (hok : Ok (rowOf X l)) (T : ℕ) (hT : T = 128 * (i 0).val + l.val) (hi : (i 0).val < 12) :
    codesAt c i arg2 arg3 arg4 arg7 v0 v1 f2 f3 f4 (ix3 (0 : Fin 1) R l) = byte (rowOf X l) v0 v1 T R.val := by
  have hlt : R.val - min (128 * codeTrip R.val) 14656 < 128 := by have := R.isLt; unfold codeTrip; split <;> omega
  have hp : codePlace (ix3 (0 : Fin 1) R l) = ix3 (0 : Fin 1) (⟨R.val - min (128 * codeTrip R.val) 14656, hlt⟩ : Fin 128) l := by
    funext a; fin_cases a <;> rfl
  unfold codesAt
  rw [hp]
  exact tripCodes_at c i arg2 arg3 arg4 arg7 v0 v1 f2 f3 f4 _ X h2 h3 h4 _ l hok T hT hi R.val (by
    show R.val = start (codeTrip R.val) / 2 + (R.val - min (128 * codeTrip R.val) 14656)
    have := R.isLt; unfold start codeTrip; split <;> omega)

include h2 h3 in
/-- The scales' block after a point. -/
theorem scalesAt_at (R : Fin 924) (l : Fin 128) :
    scalesAt c arg2 arg3 arg7 f2 f3 (ix3 (0 : Fin 1) R l) = sScale (top (rowOf X l) R.val) := by
  have hlt : R.val - min (8 * scaleTrip R.val) 916 < 8 := by have := R.isLt; unfold scaleTrip; split <;> omega
  have hp : scalePlace (ix3 (0 : Fin 1) R l) = ix3 (0 : Fin 1) (⟨R.val - min (8 * scaleTrip R.val) 916, hlt⟩ : Fin 8) l := by
    funext a; fin_cases a <;> rfl
  unfold scalesAt
  rw [hp, tripScales_at c arg2 arg3 arg7 f2 f3 _ X h2 h3]
  congr 2
  show start (scaleTrip R.val) / 32 + (R.val - min (8 * scaleTrip R.val) 916) = R.val
  have := R.isLt; unfold start scaleTrip; split <;> omega

end

end Cert.Proof.KI

end
-- ==== Proof.Entry.lean ====
/-
  What the region finds: the input's rows, and the two tables of 0 and powers of two.
-/
module

public import proofs.«01_k».proof.Proof.KTrip
public import Idealize.ShloMosaic.Lib.Pointwise
public import Idealize.ShloMosaic.Lib.Claim
public import Idealize.ShloMosaic.Lib.StableHlo.ReadAt

@[expose] public section

set_option maxRecDepth 16384

noncomputable section

namespace Cert.Proof.KI

open Cert.KernelIdeal Cert.KernelIdeal.Gen
open Idealize.ShloMosaic Idealize.ShloMosaic.TcCoe
open Cert.Proof.Quant Cert.Proof.Spec

variable (m : (ℓ : Loc nD τ sig) → Buf (Elt Ideal) ℓ) (c : Dev nD)

theorem rows_entry (T : Fin 1536) (d : Fin 29568) :
    V m c main_v31 (ix2 T d) = (m ((c : Thread nD τ).loc main_arg0) : S4x384x29568.Idx → EReal) (ix3 ⟨T.val / 384, by omega⟩ ⟨T.val % 384, by omega⟩ d) := by
  unfold V V0
  simp only [hostOps0, hostOps0_1, hostOps0_2, hostOps0_3, hostOps0_4, List.flatten_cons, List.flatten_nil, List.append_nil, List.cons_append, List.nil_append]
  after_reads_at

theorem perm_word : ∀ r : Fin 256, IntOp.addi (IntOp.muli (32#32) (IntOp.andi (BitVec.ofNat 32 r.val) 7#32)) (IntOp.shrsi ArithUnit.host (BitVec.ofNat 32 r.val) 3#32)
    = BitVec.ofNat 32 (32 * (r.val % 8) + r.val / 8) := by decide +kernel

theorem sign_word : ∀ r : Fin 64, IntOp.addi (IntOp.muli (8#32) (IntOp.andi (BitVec.ofNat 32 r.val) 7#32)) (IntOp.shrsi ArithUnit.host (BitVec.ofNat 32 r.val) 3#32)
    = BitVec.ofNat 32 (8 * (r.val % 8) + r.val / 8) := by decide +kernel

theorem quarter_word : ∀ q : Fin 256, IntOp.shrsi ArithUnit.host (BitVec.ofNat 32 q.val) 2#32 = BitVec.ofNat 32 (q.val / 4) := by decide +kernel

theorem power_word : ∀ q : Fin 256, (IntOp.shli ArithUnit.host (8#32) (IntOp.muli (4#32) (IntOp.andi (BitVec.ofNat 32 q.val) 3#32))).toInt = ((8 * 16 ^ (q.val % 4) : ℕ) : ℤ) := by
  decide +kernel

theorem cmpi_ofNat (a b : ℕ) (ha : a < 2 ^ 32) (hb : b < 2 ^ 32) :
    IntOp.cmpi .eq (BitVec.ofNat 32 a) (BitVec.ofNat 32 b) = if a = b then 1#1 else 0#1 := by
  have e : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  by_cases h : a = b
  · subst h; simp [IntOp.cmpi]
  · rw [if_neg h]
    show BitVec.ofBool (BitVec.ofNat 32 a == BitVec.ofNat 32 b) = 0#1
    rw [beq_eq_false_iff_ne.mpr (e.not.mpr h)]
    rfl

theorem select_if {α : Type} (p : Prop) [Decidable p] (a b : α) : Scalar.select (if p then 1#1 else 0#1) a b = if p then a else b := by
  split <;> rfl

theorem perm_entry (r q : Fin 256) :
    (V m c main_v32 : S256x256.Idx → EReal) (ix2 r q) = if q.val = 32 * (r.val % 8) + r.val / 8 then (1 : EReal) else 0 := by
  unfold V V0
  simp only [hostOps0, hostOps0_1, hostOps0_2, hostOps0_3, hostOps0_4, List.flatten_cons, List.flatten_nil, List.append_nil, List.cons_append, List.nil_append]
  after_reads_at
  rw [perm_word, cmpi_ofNat _ _ (by omega) (by omega), select_if]

theorem sign_entry (r : Fin 64) (q : Fin 256) :
    (V m c main_v33 : S64x256.Idx → EReal) (ix2 r q) = if q.val / 4 = 8 * (r.val % 8) + r.val / 8 then (((8 * 16 ^ (q.val % 4) : ℕ) : ℝ) : EReal) else 0 := by
  unfold V V0
  simp only [hostOps0, hostOps0_1, hostOps0_2, hostOps0_3, hostOps0_4, List.flatten_cons, List.flatten_nil, List.append_nil, List.cons_append, List.nil_append]
  after_reads_at
  rw [sign_word, quarter_word, cmpi_ofNat _ _ (by omega) (by omega), select_if]
  split
  · have h := power_word q
    generalize IntOp.shli ArithUnit.host (8#32) (IntOp.muli (4#32) (IntOp.andi (BitVec.ofNat 32 q.val) 3#32)) = w at h
    show (((w.toInt : ℤ) : ℝ) : EReal) = _
    rw [h, Int.cast_natCast]
  · show ((((0#32 : BitVec 32).toInt : ℤ) : ℝ) : EReal) = 0
    simp

end Cert.Proof.KI

end
-- ==== Proof.RefDefs.lean ====
/-
  The reference's results and the precondition as a few named vectors.
-/
module

public import proofs.«01_k».proof.Proof.Spec
public import proofs.«01_k».proof.Proof.Gen.ReferenceIdeal.StepRun
public import proofs.«01_k».proof.Pre_exact_in_22_bits
public import Idealize.ShloMosaic.Lib.Pointwise

@[expose] public section

set_option maxRecDepth 16384

noncomputable section

namespace Cert.Proof.Ref

open Cert.ReferenceIdeal Cert.ReferenceIdeal.Gen Cert.ReferenceIdeal.Step
open Idealize.ShloMosaic
open Cert.Proof.Quant Cert.Proof.Spec

/-- The input in groups of 32. -/
def gR (x : FVec Ideal S4x384x29568 .bf16) : FVec Ideal S4x384x924x32 .f32 :=
  shapeCast S4x384x924x32 (extf .f32 x bitsLt_bf16_f32) shapeCasts_S4x384x29568_S4x384x924x32
/-- The magnitudes. -/
def mR (x : FVec Ideal S4x384x29568 .bf16) : FVec Ideal S4x384x924x32 .f32 :=
  Host.absf (gR x)
/-- A group's largest magnitude. -/
def amaxR (x : FVec Ideal S4x384x29568 .bf16) : FVec Ideal S4x384x924 .f32 :=
  Host.reduce FloatOps.maximumf (mR x) (constant S_ .f32 0xFF800000#32) reducesTo_S4x384x924x32_S4x384x924_d3 h_S_
/-- The exponents tried. -/
def tabI : IVec S254 32 :=
  addi (broadcastInDim S254 ![] bcast_S_S254 (constantI S_ 32 4294967170#32)) (iotaInDim S254 32 0)
/-- Their powers of two. -/
def tabF : FVec Ideal S254 .f32 :=
  Host.powf (broadcastInDim S254 ![] bcast_S_S254 (constant S_ .f32 0x40000000#32)) (sitofp .f32 tabI)
/-- Each exponent tried, where its power is at most the magnitude. -/
def pickR (x : FVec Ideal S4x384x29568 .bf16) : IVec S4x384x924x254 32 :=
  select (cmpf .ole (broadcastInDim S4x384x924x254 ![0, 1, 2, 3] bcast_S1x1x1x254_S4x384x924x254_0_1_2_3 (broadcastInDim S1x1x1x254 ![3] bcast_S254_S1x1x1x254_3 tabF)) (broadcastInDim S4x384x924x254 ![0, 1, 2, 3] bcast_S4x384x924x1_S4x384x924x254_0_1_2_3 (broadcastInDim S4x384x924x1 ![0, 1, 2] bcast_S4x384x924_S4x384x924x1_0_1_2 (amaxR x)))) (broadcastInDim S4x384x924x254 ![3] bcast_S254_S4x384x924x254_3 tabI) (broadcastInDim S4x384x924x254 ![] bcast_S_S4x384x924x254 (constantI S_ 32 4294967169#32))
/-- The exponent of a scale. -/
def eR (x : FVec Ideal S4x384x29568 .bf16) : IVec S4x384x924 32 :=
  select (cmpf .oeq (amaxR x) (broadcastInDim S4x384x924 ![] bcast_S_S4x384x924 (constant S_ .f32 0x00000000#32))) (broadcastInDim S4x384x924 ![] bcast_S_S4x384x924 (constantI S_ 32 0#32)) (subi (addi (Host.reduce IntOp.maxsi (pickR x) (constantI S_ 32 2147483648#32) reducesTo_S4x384x924x254_S4x384x924_d3 h_S_) (broadcastInDim S4x384x924 ![] bcast_S_S4x384x924 (constantI S_ 32 1#32))) (broadcastInDim S4x384x924 ![] bcast_S_S4x384x924 (constantI S_ 32 3#32)))
/-- The elements over their scales. -/
def aR (x : FVec Ideal S4x384x29568 .bf16) : FVec Ideal S4x384x924x32 .f32 :=
  mulf (mulf (mR x) (broadcastInDim S4x384x924x32 ![] bcast_S_S4x384x924x32 (constant S_ .f32 0x3F400000#32))) (broadcastInDim S4x384x924x32 ![0, 1, 2, 3] bcast_S4x384x924x1_S4x384x924x32_0_1_2_3 (broadcastInDim S4x384x924x1 ![0, 1, 2] bcast_S4x384x924_S4x384x924x1_0_1_2 (Host.powf (broadcastInDim S4x384x924 ![] bcast_S_S4x384x924 (constant S_ .f32 0x40000000#32)) (sitofp .f32 (negi (eR x))))))
/-- The number of the grid point below. -/
def iR (x : FVec Ideal S4x384x29568 .bf16) : IVec S4x384x924x32 32 :=
  fptosi 32 (select (cmpf .olt (aR x) (broadcastInDim S4x384x924x32 ![] bcast_S_S4x384x924x32 (constant S_ .f32 0x40000000#32))) (Host.floor (mulf (broadcastInDim S4x384x924x32 ![] bcast_S_S4x384x924x32 (constant S_ .f32 0x40000000#32)) (aR x))) (select (cmpf .olt (aR x) (broadcastInDim S4x384x924x32 ![] bcast_S_S4x384x924x32 (constant S_ .f32 0x40800000#32))) (addf (broadcastInDim S4x384x924x32 ![] bcast_S_S4x384x924x32 (constant S_ .f32 0x40800000#32)) (Host.floor (subf (aR x) (broadcastInDim S4x384x924x32 ![] bcast_S_S4x384x924x32 (constant S_ .f32 0x40000000#32))))) (broadcastInDim S4x384x924x32 ![] bcast_S_S4x384x924x32 (id (constant S_ .f32 0x40C00000#32)))))
/-- The draws. -/
def wR (s : State Ideal) : IVec S4x384x924x32 32 :=
  shapeCast S4x384x924x32 (concatenate S4x384x7392x4 3 [⟨S4x384x7392x1, (broadcastInDim S4x384x7392x1 ![0, 1, 2] bcast_S4x384x7392_S4x384x7392x1_0_1_2 s.main_v20_6)⟩, ⟨S4x384x7392x1, (broadcastInDim S4x384x7392x1 ![0, 1, 2] bcast_S4x384x7392_S4x384x7392x1_0_1_2 s.main_v20_7)⟩, ⟨S4x384x7392x1, (broadcastInDim S4x384x7392x1 ![0, 1, 2] bcast_S4x384x7392_S4x384x7392x1_0_1_2 s.main_v20_8)⟩, ⟨S4x384x7392x1, (broadcastInDim S4x384x7392x1 ![0, 1, 2] bcast_S4x384x7392_S4x384x7392x1_0_1_2 s.main_v20_9)⟩] concatenates_S4x384x7392x1_S4x384x7392x1_S4x384x7392x1_S4x384x7392x1_S4x384x7392x4_d3) shapeCasts_S4x384x7392x4_S4x384x924x32
/-- The draws in [0, 1). -/
def uR (s : State Ideal) : FVec Ideal S4x384x924x32 .f32 :=
  mulf (uitofp .f32 (Host.shrui (wR s) (broadcastInDim S4x384x924x32 ![] bcast_S_S4x384x924x32 (constantI S_ 32 8#32)))) (broadcastInDim S4x384x924x32 ![] bcast_S_S4x384x924x32 (constant S_ .f32 0x33800000#32))
/-- How far an element lies between its two grid points. -/
def fR (x : FVec Ideal S4x384x29568 .bf16) : FVec Ideal S4x384x924x32 .f32 :=
  select (cmpf .olt (aR x) (broadcastInDim S4x384x924x32 ![] bcast_S_S4x384x924x32 (constant S_ .f32 0x40000000#32))) (subf (mulf (broadcastInDim S4x384x924x32 ![] bcast_S_S4x384x924x32 (constant S_ .f32 0x40000000#32)) (aR x)) (Host.floor (mulf (broadcastInDim S4x384x924x32 ![] bcast_S_S4x384x924x32 (constant S_ .f32 0x40000000#32)) (aR x)))) (select (cmpf .olt (aR x) (broadcastInDim S4x384x924x32 ![] bcast_S_S4x384x924x32 (constant S_ .f32 0x40800000#32))) (subf (subf (aR x) (broadcastInDim S4x384x924x32 ![] bcast_S_S4x384x924x32 (constant S_ .f32 0x40000000#32))) (Host.floor (subf (aR x) (broadcastInDim S4x384x924x32 ![] bcast_S_S4x384x924x32 (constant S_ .f32 0x40000000#32))))) (mulf (subf (aR x) (broadcastInDim S4x384x924x32 ![] bcast_S_S4x384x924x32 (constant S_ .f32 0x40800000#32))) (broadcastInDim S4x384x924x32 ![] bcast_S_S4x384x924x32 (constant S_ .f32 0x3F000000#32))))
/-- The four bits of every element. -/
def nR (s : State Ideal) (x : FVec Ideal S4x384x29568 .bf16) : IVec S4x384x924x32 32 :=
  ori (addi (iR x) (extui 32 (cmpf .olt (uR s) (fR x)) natLt_1_32)) (select (cmpf .olt (gR x) (broadcastInDim S4x384x924x32 ![] bcast_S_S4x384x924x32 (constant S_ .f32 0x00000000#32))) (broadcastInDim S4x384x924x32 ![] bcast_S_S4x384x924x32 (constantI S_ 32 8#32)) (broadcastInDim S4x384x924x32 ![] bcast_S_S4x384x924x32 (constantI S_ 32 0#32)))
/-- The bytes. -/
def bR (s : State Ideal) (x : FVec Ideal S4x384x29568 .bf16) : IVec S4x384x14784 8 :=
  trunci 8 (ori (shapeCast S4x384x14784 (extractStridedSlice S4x384x14784x1 ![0, 0, 0, 0] (shapeCast S4x384x14784x2 (nR s x) shapeCasts_S4x384x924x32_S4x384x14784x2) slices_S4x384x14784x2_S4x384x14784x1_0_0_0_0) shapeCasts_S4x384x14784x1_S4x384x14784) (Host.shli (shapeCast S4x384x14784 (extractStridedSlice S4x384x14784x1 ![0, 0, 0, 1] (shapeCast S4x384x14784x2 (nR s x) shapeCasts_S4x384x924x32_S4x384x14784x2) slices_S4x384x14784x2_S4x384x14784x1_0_0_0_1) shapeCasts_S4x384x14784x1_S4x384x14784) (broadcastInDim S4x384x14784 ![] bcast_S_S4x384x14784 (constantI S_ 32 4#32)))) natLt_8_32

/-- The scales. -/
def sR (x : FVec Ideal S4x384x29568 .bf16) : IVec S4x384x924 8 :=
  trunci 8 (addi (eR x) (broadcastInDim S4x384x924 ![] bcast_S_S4x384x924 (constantI S_ 32 127#32))) natLt_8_32

section
attribute [local irreducible] shapeCast extf Host.absf Host.reduce constant constantI broadcastInDim addi iotaInDim Host.powf sitofp uitofp select cmpf subi negi mulf fptosi Host.floor addf subf concatenate Host.shrui Host.shli ori andi extui extractStridedSlice trunci
theorem bytes_eq (s : State Ideal) (x : FVec Ideal S4x384x29568 .bf16) : R_main_v111 s x = bR s x := rfl
theorem scales_eq (s : State Ideal) (x : FVec Ideal S4x384x29568 .bf16) : R_main_v53 s x = sR x := rfl

variable [Cert.Pre_exact_in_22_bits.Facts]
theorem pre_eq (x : FVec Ideal S4x384x29568 .bf16) (s : IVec S2 32) : Cert.Pre_exact_in_22_bits.fn (F := Ideal) x s
    = andi (broadcastInDim S4x384x924x32 ![0, 1, 2, 3] bcast_S4x384x924x1_S4x384x924x32_0_1_2_3 (broadcastInDim S4x384x924x1 ![0, 1, 2] bcast_S4x384x924_S4x384x924x1_0_1_2
        (ori (cmpf .oeq (amaxR x) (broadcastInDim S4x384x924 ![] bcast_S_S4x384x924 (constant S_ .f32 0x00000000#32)))
          (andi (cmpf .oge (amaxR x) (broadcastInDim S4x384x924 ![] bcast_S_S4x384x924 (constant S_ .f32 0x01800000#32)))
            (cmpf .ole (amaxR x) (broadcastInDim S4x384x924 ![] bcast_S_S4x384x924 (constant S_ .f32 0x7F7FFFFF#32)))))))
      (cmpf .oeq (Host.floor (mulf (fR x) (broadcastInDim S4x384x924x32 ![] bcast_S_S4x384x924x32 (constant S_ .f32 0x4A800000#32))))
        (mulf (fR x) (broadcastInDim S4x384x924x32 ![] bcast_S_S4x384x924x32 (constant S_ .f32 0x4A800000#32)))) := rfl
end

end Cert.Proof.Ref

end
-- ==== Proof.RefRounds.lean ====
/-
  The reference's generator at an index: its ten trips are the ten rounds.
-/
module

public import proofs.«01_k».proof.Proof.RefDefs
public import Idealize.ShloMosaic.Lib.Pointwise

@[expose] public section

set_option maxRecDepth 16384

noncomputable section

namespace Cert.Proof.Ref

open Cert.ReferenceIdeal Cert.ReferenceIdeal.Gen Cert.ReferenceIdeal.Step
open Idealize.ShloMosaic
open Cert.Proof.Quant Cert.Proof.Spec

open Cert.Proof.Philox

theorem shr_host (x : BitVec 32) (k : ℕ) (hk : k < 32) : IntOp.shrui .host x (BitVec.ofNat 32 k) = x >>> k := by
  have h : (BitVec.ofNat 32 k).toNat = k := by rw [BitVec.toNat_ofNat]; exact Nat.mod_eq_of_lt (by omega)
  unfold IntOp.shrui
  rw [h, if_pos hk]
  show x >>> (BitVec.ofNat 32 k).toNat = _
  rw [h]

section
variable (j : ℕ) (s : State Ideal) (b : Fin 4) (r : Fin 384) (q : Fin 7392)

/-- A high word by halves, as the reference computes it. -/
def halves (A c : BitVec 32) : BitVec 32 :=
  let h := fun x : BitVec 32 => IntOp.shrui .host x (BitVec.ofNat 32 16)
  let l := fun x : BitVec 32 => IntOp.andi x 65535#32
  IntOp.addi (IntOp.addi (IntOp.muli (h A) (h c)) (h (IntOp.addi (IntOp.muli (h A) (l c)) (h (IntOp.muli (l A) (l c))))))
    (h (IntOp.addi (IntOp.muli (l A) (h c)) (l (IntOp.addi (IntOp.muli (h A) (l c)) (h (IntOp.muli (l A) (l c)))))))

theorem halves_eq (A c : BitVec 32) : halves A c = hi A c := by
  unfold halves
  simp only [shr_host _ 16 (by omega)]
  rfl

theorem b37_at : b37 j s (ix3 b r q) = hi M0 (s.main_v20_6 (ix3 b r q)) := by
  rw [← halves_eq]
  rfl

theorem b73_at : b73 j s (ix3 b r q) = hi M1 (s.main_v20_8 (ix3 b r q)) := by
  rw [← halves_eq]
  rfl

theorem b3_at : b3 j s (ix3 b r q) = M0 * s.main_v20_6 (ix3 b r q) := rfl
theorem b39_at : b39 j s (ix3 b r q) = M1 * s.main_v20_8 (ix3 b r q) := rfl

theorem b76_at : b76 j s (ix3 b r q) = b73 j s (ix3 b r q) ^^^ s.main_v20_7 (ix3 b r q) ^^^ s.main_v20_10 ix0 := by
  pointwise [b76, b75, b74]
  try rfl
theorem b79_at : b79 j s (ix3 b r q) = b37 j s (ix3 b r q) ^^^ s.main_v20_9 (ix3 b r q) ^^^ s.main_v20_11 ix0 := by
  pointwise [b79, b78, b77]
  try rfl
theorem b80_at : b80 j s ix0 = s.main_v20_10 ix0 + W0 := rfl
theorem b81_at : b81 j s ix0 = s.main_v20_11 ix0 + W1 := rfl
end

/-- The states of the reference's loop. -/
def states (m : IVec S2 32) : ℕ → State Ideal
  | 0 => init m
  | n + 1 => step n (states m n)

theorem counter_at (b : Fin 4) (r : Fin 384) (q : Fin 7392) :
    K_main_v14 (F := Ideal) (ix3 b r q) = BitVec.ofNat 32 ((384 * b.val + r.val) * 7392 + q.val) := by
  have h : K_main_v14 (F := Ideal) (ix3 b r q) = IntOp.shrui .host (BitVec.ofNat 32 (384 * b.val + r.val) * BitVec.ofNat 32 29568 + (BitVec.ofNat 32 0 + BitVec.ofNat 32 4 * BitVec.ofNat 32 q.val)) (BitVec.ofNat 32 2) := by
    have h1 : K_main_v1 (F := Ideal) (ix3 b r (0 : Fin 1)) = BitVec.ofNat 32 (384 * b.val + r.val) := by
      pointwise [K_main_v1, K_main_v0]
      rw [Nat.mul_comm]
    have h2 : K_main_v10 (F := Ideal) (ix3 b r q) = K_main_v8 (F := Ideal) (ix3 b r (0 : Fin 1)) := by pointwise [K_main_v10]
    have h3 : K_main_v11 (F := Ideal) (ix3 b r q) = K_main_v6 (F := Ideal) (ix1 q) := by pointwise [K_main_v11, K_main_v9]
    show IntOp.shrui .host (K_main_v10 (F := Ideal) (ix3 b r q) + K_main_v11 (F := Ideal) (ix3 b r q)) (BitVec.ofNat 32 2) = _
    rw [h2, h3]
    show IntOp.shrui .host (K_main_v1 (F := Ideal) (ix3 b r (0 : Fin 1)) * BitVec.ofNat 32 29568 + K_main_v6 (F := Ideal) (ix1 q)) (BitVec.ofNat 32 2) = _
    rw [h1]
    rfl
  rw [h, shr_host _ 2 (by omega)]
  apply BitVec.eq_of_toNat_eq
  simp only [← BitVec.ofNat_mul, ← BitVec.ofNat_add]
  rw [toNat_shr, BitVec.toNat_ofNat, BitVec.toNat_ofNat]
  have := b.isLt; have := r.isLt; have := q.isLt
  rw [Nat.mod_eq_of_lt (by omega), Nat.mod_eq_of_lt (by omega)]
  omega

theorem states_at (m : IVec S2 32) (b : Fin 4) (r : Fin 384) (q : Fin 7392) (n : ℕ) :
    (states m n).main_v20_10 ix0 = m (ix1 (0 : Fin 2)) + BitVec.ofNat 32 n * W0 ∧ (states m n).main_v20_11 ix0 = m (ix1 (1 : Fin 2)) + BitVec.ofNat 32 n * W1
    ∧ philox (BitVec.ofNat 32 ((384 * b.val + r.val) * 7392 + q.val)) (m (ix1 (0 : Fin 2))) (m (ix1 (1 : Fin 2))) n
      = ⟨(states m n).main_v20_6 (ix3 b r q), (states m n).main_v20_7 (ix3 b r q), (states m n).main_v20_8 (ix3 b r q), (states m n).main_v20_9 (ix3 b r q)⟩ := by
  induction n with
  | zero =>
    have e0 : A_main_v17 (F := Ideal) m ix0 = m (ix1 (0 : Fin 2)) := by pointwise [A_main_v17, A_main_v16]
    have e1 : A_main_v19 (F := Ideal) m ix0 = m (ix1 (1 : Fin 2)) := by pointwise [A_main_v19, A_main_v18]
    refine ⟨?_, ?_, ?_⟩
    · show A_main_v17 (F := Ideal) m ix0 = _
      rw [e0, BitVec.zero_mul, BitVec.add_zero]
    · show A_main_v19 (F := Ideal) m ix0 = _
      rw [e1, BitVec.zero_mul, BitVec.add_zero]
    · show St.mk _ _ _ _ = St.mk (K_main_v14 (F := Ideal) (ix3 b r q)) _ _ _
      rw [counter_at]
      rfl
  | succ n ih =>
    obtain ⟨h0, h1, h2⟩ := ih
    have ek : ∀ W : BitVec 32, BitVec.ofNat 32 n * W + W = BitVec.ofNat 32 (n + 1) * W := by
      intro W; rw [BitVec.ofNat_add, BitVec.add_mul, BitVec.one_mul]
    have hs : states m (n + 1) = step n (states m n) := rfl
    rw [hs, step_main_v20_6, step_main_v20_7, step_main_v20_8, step_main_v20_9, step_main_v20_10, step_main_v20_11]
    refine ⟨?_, ?_, ?_⟩
    · rw [b80_at, h0, BitVec.add_assoc, ek]
    · rw [b81_at, h1, BitVec.add_assoc, ek]
    · rw [b76_at, b79_at, b73_at, b37_at, b3_at, b39_at, hi_M0, hi_M1, h0, h1]
      show Philox.round _ _ (philox _ _ _ n) = _
      rw [h2]
      rfl

end Cert.Proof.Ref

end
-- ==== Proof.Ref.lean ====
/-
  The reference's results read at an index: each is a function of one row of the input.
-/
module

public import proofs.«01_k».proof.Proof.RefRounds
public import Idealize.ShloMosaic.Lib.Pointwise

@[expose] public section

set_option maxRecDepth 16384

noncomputable section

namespace Cert.Proof.Ref

open Cert.ReferenceIdeal Cert.ReferenceIdeal.Gen Cert.ReferenceIdeal.Step
open Idealize.ShloMosaic
open Cert.Proof.Quant Cert.Proof.Spec

/-- A row of the input, read past its end as nought. -/
def row (x : FVec Ideal S4x384x29568 .bf16) (b : Fin 4) (r : Fin 384) : ℕ → EReal := fun d => if h : d < 29568 then x (ix3 b r ⟨d, h⟩) else 0

section
variable (x : FVec Ideal S4x384x29568 .bf16) (b : Fin 4) (r : Fin 384) (g : Fin 924) (n : Fin 32)

theorem gR_at : gR x (ix4 b r g n) = row x b r (32 * g.val + n.val) := by
  have h : 32 * g.val + n.val < 29568 := by omega
  unfold row
  rw [dif_pos h]
  pointwise [gR]
  exact congrArg x (congrArg (ix3 b r) (Fin.ext (by show g.val * 32 + n.val = 32 * g.val + n.val; omega)))

theorem mR_at : mR x (ix4 b r g n) = mag (row x b r) (32 * g.val + n.val) := by
  have h : mR x (ix4 b r g n) = max (gR x (ix4 b r g n)) (-(gR x (ix4 b r g n))) := rfl
  rw [h, gR_at]; rfl

theorem val_ninf : Ideal.ofBits .f32 0xFF800000#32 = (⊥ : EReal) := by
  show Ideal.ieee 8 23 0xFF800000#32 = _
  unfold Ideal.ieee
  rw [if_pos (by decide), if_pos (by decide), if_pos (by decide)]

theorem amaxR_at : amaxR x (ix3 b r g) = top (row x b r) g.val := by
  have h : amaxR x (ix3 b r g) = (Finset.univ : Finset (Fin 32)).fold max (Ideal.ofBits .f32 0xFF800000#32) fun n => mR x (ix4 b r g n) := by
    pointwise [amaxR]
  rw [h]
  unfold top
  rw [val_ninf]
  exact congrArg (fun f => Finset.fold max ⊥ f (Finset.univ : Finset (Fin 32))) (funext fun n => mR_at x b r g n)

theorem tabI_at (k : Fin 254) : tabI (ix1 k) = 4294967170#32 + BitVec.ofNat 32 k.val := by
  have h : ∀ w : BitVec 32, addi (broadcastInDim S254 ![] bcast_S_S254 (constantI S_ 32 w)) (iotaInDim S254 32 0) (ix1 k) = IntOp.addi w (BitVec.ofNat 32 k.val) := by
    intro w
    pointwise
  exact h _

theorem tabF_at (k : Fin 254) : tabF (ix1 k) = Ideal.pow (val 0x40000000#32) (((4294967170#32 + BitVec.ofNat 32 k.val).toInt : ℝ) : EReal) := by
  rw [← tabI_at]
  have h : ∀ (w : BitVec 32) (t : IVec S254 32), Host.powf (F := Ideal) (broadcastInDim S254 ![] bcast_S_S254 (constant S_ .f32 w)) (sitofp .f32 t) (ix1 k)
      = Ideal.pow (Ideal.ofBits .f32 w) (FloatOps.sitofp (F := Ideal) FTy.f32 (t (ix1 k))) := by
    intro w t
    pointwise
  exact h _ _

theorem pick_at (T : FVec Ideal S254 .f32) (A : FVec Ideal S4x384x924 .f32) (I : IVec S254 32) (w : BitVec 32) (k : Fin 254) :
    select (cmpf .ole (broadcastInDim S4x384x924x254 ![0, 1, 2, 3] bcast_S1x1x1x254_S4x384x924x254_0_1_2_3 (broadcastInDim S1x1x1x254 ![3] bcast_S254_S1x1x1x254_3 T)) (broadcastInDim S4x384x924x254 ![0, 1, 2, 3] bcast_S4x384x924x1_S4x384x924x254_0_1_2_3 (broadcastInDim S4x384x924x1 ![0, 1, 2] bcast_S4x384x924_S4x384x924x1_0_1_2 A))) (broadcastInDim S4x384x924x254 ![3] bcast_S254_S4x384x924x254_3 I) (broadcastInDim S4x384x924x254 ![] bcast_S_S4x384x924x254 (constantI S_ 32 w)) (ix4 b r g k)
      = Scalar.select (Ideal.cmp .ole (T (ix1 k)) (A (ix3 b r g))) (I (ix1 k)) w := by
  pointwise

theorem pickR_at (k : Fin 254) : pickR x (ix4 b r g k) = Scalar.select (Ideal.cmp .ole (tabF (ix1 k)) (amaxR x (ix3 b r g))) (4294967170#32 + BitVec.ofNat 32 k.val) 4294967169#32 := by
  have h := pick_at b r g tabF (amaxR x) tabI 4294967169#32 k
  rw [tabI_at] at h
  exact h

theorem exp_at (A : FVec Ideal S4x384x924 .f32) (P : IVec S4x384x924x254 32) (z : BitVec 32) (w w0 w1 w3 : BitVec 32) :
    select (cmpf .oeq A (broadcastInDim S4x384x924 ![] bcast_S_S4x384x924 (constant S_ .f32 z))) (broadcastInDim S4x384x924 ![] bcast_S_S4x384x924 (constantI S_ 32 w0)) (subi (addi (Host.reduce IntOp.maxsi P (constantI S_ 32 w) reducesTo_S4x384x924x254_S4x384x924_d3 h_S_) (broadcastInDim S4x384x924 ![] bcast_S_S4x384x924 (constantI S_ 32 w1))) (broadcastInDim S4x384x924 ![] bcast_S_S4x384x924 (constantI S_ 32 w3))) (ix3 b r g)
      = Scalar.select (Ideal.cmp .oeq (A (ix3 b r g)) (Ideal.ofBits .f32 z)) w0
        ((Finset.univ : Finset (Fin 254)).fold IntOp.maxsi w (fun k => P (ix4 b r g k)) + w1 - w3) := by
  pointwise
  try rfl

theorem eR_at : eR x (ix3 b r g) = rE (top (row x b r) g.val) := by
  have hf : (fun k => pickR x (ix4 b r g k)) = fun k : Fin 254 => Scalar.select (Ideal.cmp .ole (Ideal.pow (val 0x40000000#32) (((4294967170#32 + BitVec.ofNat 32 k.val).toInt : ℝ) : EReal)) (top (row x b r) g.val))
      (4294967170#32 + BitVec.ofNat 32 k.val) 4294967169#32 := by
    funext k
    rw [pickR_at, tabF_at, amaxR_at]
  have h := exp_at b r g (amaxR x) (pickR x) 0x00000000#32 2147483648#32 0#32 1#32 3#32
  rw [hf, amaxR_at] at h
  exact h

theorem over_at (M : FVec Ideal S4x384x924x32 .f32) (E : IVec S4x384x924 32) (w w' : BitVec 32) :
    mulf (mulf M (broadcastInDim S4x384x924x32 ![] bcast_S_S4x384x924x32 (constant S_ .f32 w))) (broadcastInDim S4x384x924x32 ![0, 1, 2, 3] bcast_S4x384x924x1_S4x384x924x32_0_1_2_3 (broadcastInDim S4x384x924x1 ![0, 1, 2] bcast_S4x384x924_S4x384x924x1_0_1_2 (Host.powf (broadcastInDim S4x384x924 ![] bcast_S_S4x384x924 (constant S_ .f32 w')) (sitofp .f32 (negi E))))) (ix4 b r g n)
      = M (ix4 b r g n) * Ideal.ofBits .f32 w * Ideal.pow (Ideal.ofBits .f32 w') (FloatOps.sitofp (F := Ideal) FTy.f32 (-(E (ix3 b r g)))) := by
  pointwise

theorem aR_at : aR x (ix4 b r g n) = rA (mag (row x b r) (32 * g.val + n.val)) (top (row x b r) g.val) := by
  have h : aR x (ix4 b r g n) = mR x (ix4 b r g n) * val 0x3F400000#32 * Ideal.pow (val 0x40000000#32) (((-(eR x (ix3 b r g))).toInt : ℝ) : EReal) := by
    exact over_at b r g n (mR x) (eR x) 0x3F400000#32 0x40000000#32
  rw [h, mR_at, eR_at]
  rfl

theorem aR_unit : aR x (ix4 b r g n) = unit (row x b r) (32 * g.val + n.val) := by
  rw [aR_at]; unfold unit
  rw [show (32 * g.val + n.val) / 32 = g.val by omega]

theorem fR_at : fR x (ix4 b r g n) = rFrac (aR x (ix4 b r g n)) := by
  unfold fR rFrac val
  generalize aR x = A
  rfl

theorem iR_at : iR x (ix4 b r g n) = Ideal.fptosi 32 (rIdx (aR x (ix4 b r g n))) := by
  unfold iR rIdx val
  generalize aR x = A
  rfl

theorem scale_at : sR x (ix3 b r g) = scale (row x b r) g.val := by
  have h : ∀ (e : IVec S4x384x924 32) (w : BitVec 32), trunci 8 (addi e (broadcastInDim S4x384x924 ![] bcast_S_S4x384x924 (constantI S_ 32 w))) natLt_8_32 (ix3 b r g) = (e (ix3 b r g) + w).setWidth 8 := by
    intro e w
    pointwise
    rfl
  refine (h (eR x) 127#32).trans ?_
  rw [eR_at]
  rfl

theorem words_at (w0 w1 w2 w3 : IVec S4x384x7392 32) :
    shapeCast S4x384x924x32 (concatenate S4x384x7392x4 3 [⟨S4x384x7392x1, broadcastInDim S4x384x7392x1 ![0, 1, 2] bcast_S4x384x7392_S4x384x7392x1_0_1_2 w0⟩, ⟨S4x384x7392x1, broadcastInDim S4x384x7392x1 ![0, 1, 2] bcast_S4x384x7392_S4x384x7392x1_0_1_2 w1⟩, ⟨S4x384x7392x1, broadcastInDim S4x384x7392x1 ![0, 1, 2] bcast_S4x384x7392_S4x384x7392x1_0_1_2 w2⟩, ⟨S4x384x7392x1, broadcastInDim S4x384x7392x1 ![0, 1, 2] bcast_S4x384x7392_S4x384x7392x1_0_1_2 w3⟩] concatenates_S4x384x7392x1_S4x384x7392x1_S4x384x7392x1_S4x384x7392x1_S4x384x7392x4_d3) shapeCasts_S4x384x7392x4_S4x384x924x32 (ix4 b r g n)
      = (Philox.St.mk (w0 (ix3 b r ⟨(32 * g.val + n.val) / 4, by omega⟩)) (w1 (ix3 b r ⟨(32 * g.val + n.val) / 4, by omega⟩)) (w2 (ix3 b r ⟨(32 * g.val + n.val) / 4, by omega⟩)) (w3 (ix3 b r ⟨(32 * g.val + n.val) / 4, by omega⟩))).word ⟨(32 * g.val + n.val) % 4, by omega⟩ := by
  pointwise
  have e : (⟨(32 * g.val + n.val) / 4, by omega⟩ : Fin 7392) = ⟨g.val * 8 + n.val / 4, by omega⟩ := Fin.ext (by show (32 * g.val + n.val) / 4 = g.val * 8 + n.val / 4; omega)
  have hn : n.val % 4 = 0 ∨ n.val % 4 = 1 ∨ n.val % 4 = 2 ∨ n.val % 4 = 3 := by omega
  rw [e]
  rcases hn with h | h | h | h
  · have e4 : (⟨(32 * g.val + n.val) % 4, by omega⟩ : Fin 4) = 0 := Fin.ext (by show (32 * g.val + n.val) % 4 = 0; omega)
    rw [e4]; simp only [h]; rfl
  · have e4 : (⟨(32 * g.val + n.val) % 4, by omega⟩ : Fin 4) = 1 := Fin.ext (by show (32 * g.val + n.val) % 4 = 1; omega)
    rw [e4]; simp only [h]; rfl
  · have e4 : (⟨(32 * g.val + n.val) % 4, by omega⟩ : Fin 4) = 2 := Fin.ext (by show (32 * g.val + n.val) % 4 = 2; omega)
    rw [e4]; simp only [h]; rfl
  · have e4 : (⟨(32 * g.val + n.val) % 4, by omega⟩ : Fin 4) = 3 := Fin.ext (by show (32 * g.val + n.val) % 4 = 3; omega)
    rw [e4]; simp only [h]; rfl

variable (m : IVec S2 32)

theorem wR_at : wR (states m 10) (ix4 b r g n) = draw (m (ix1 (0 : Fin 2))) (m (ix1 (1 : Fin 2))) (384 * b.val + r.val) (32 * g.val + n.val) := by
  refine (words_at b r g n _ _ _ _).trans ?_
  rw [← (states_at m b r ⟨(32 * g.val + n.val) / 4, by omega⟩ 10).2.2]
  rfl

theorem uR_at : uR (states m 10) (ix4 b r g n) = rUni (wR (states m 10) (ix4 b r g n)) := by
  have h : ∀ (w : IVec S4x384x924x32 32) (e z : BitVec 32), mulf (uitofp (F := Ideal) .f32 (Host.shrui w (broadcastInDim S4x384x924x32 ![] bcast_S_S4x384x924x32 (constantI S_ 32 e)))) (broadcastInDim S4x384x924x32 ![] bcast_S_S4x384x924x32 (constant S_ .f32 z)) (ix4 b r g n)
      = FloatOps.uitofp (F := Ideal) FTy.f32 (IntOp.shrui .host (w (ix4 b r g n)) e) * Ideal.ofBits .f32 z := by
    intro w e z
    pointwise
  refine (h (wR (states m 10)) (BitVec.ofNat 32 8) 0x33800000#32).trans ?_
  rw [shr_host _ 8 (by omega)]
  rfl

theorem nR_at : nR (states m 10) x (ix4 b r g n) = nib (row x b r) (m (ix1 (0 : Fin 2))) (m (ix1 (1 : Fin 2))) (384 * b.val + r.val) (32 * g.val + n.val) := by
  have h : ∀ (I : IVec S4x384x924x32 32) (U P G : FVec Ideal S4x384x924x32 .f32) (z e o : BitVec 32),
      ori (addi I (extui 32 (cmpf .olt U P) natLt_1_32)) (select (cmpf .olt G (broadcastInDim S4x384x924x32 ![] bcast_S_S4x384x924x32 (constant S_ .f32 z))) (broadcastInDim S4x384x924x32 ![] bcast_S_S4x384x924x32 (constantI S_ 32 e)) (broadcastInDim S4x384x924x32 ![] bcast_S_S4x384x924x32 (constantI S_ 32 o))) (ix4 b r g n)
      = (I (ix4 b r g n) + (Ideal.cmp .olt (U (ix4 b r g n)) (P (ix4 b r g n))).setWidth 32) ||| Scalar.select (Ideal.cmp .olt (G (ix4 b r g n)) (Ideal.ofBits .f32 z)) e o := by
    intro I U P G z e o
    rfl
  refine (h (iR x) (uR (states m 10)) (fR x) (gR x) 0x00000000#32 8#32 0#32).trans ?_
  rw [iR_at, uR_at, fR_at, gR_at, wR_at, aR_unit]
  rfl

theorem bytes_at (j : Fin 14784) : bR (states m 10) x (ix3 b r j) = byte (row x b r) (m (ix1 (0 : Fin 2))) (m (ix1 (1 : Fin 2))) (384 * b.val + r.val) j.val := by
  have h : ∀ (N : IVec S4x384x924x32 32) (e : BitVec 32),
      trunci 8 (ori (shapeCast S4x384x14784 (extractStridedSlice S4x384x14784x1 ![0, 0, 0, 0] (shapeCast S4x384x14784x2 N shapeCasts_S4x384x924x32_S4x384x14784x2) slices_S4x384x14784x2_S4x384x14784x1_0_0_0_0) shapeCasts_S4x384x14784x1_S4x384x14784)
          (Host.shli (shapeCast S4x384x14784 (extractStridedSlice S4x384x14784x1 ![0, 0, 0, 1] (shapeCast S4x384x14784x2 N shapeCasts_S4x384x924x32_S4x384x14784x2) slices_S4x384x14784x2_S4x384x14784x1_0_0_0_1) shapeCasts_S4x384x14784x1_S4x384x14784) (broadcastInDim S4x384x14784 ![] bcast_S_S4x384x14784 (constantI S_ 32 e)))) natLt_8_32 (ix3 b r j)
        = (N (ix4 b r ⟨j.val / 16, by omega⟩ ⟨2 * (j.val % 16), by omega⟩) ||| IntOp.shli .host (N (ix4 b r ⟨j.val / 16, by omega⟩ ⟨2 * (j.val % 16) + 1, by omega⟩)) e).setWidth 8 := by
    intro N e
    pointwise
    have e0 : (⟨j.val % 16 * 2, by omega⟩ : Fin 32) = ⟨2 * (j.val % 16), by omega⟩ := Fin.ext (Nat.mul_comm _ _)
    have e1 : (⟨j.val % 16 * 2 + 1, by omega⟩ : Fin 32) = ⟨2 * (j.val % 16) + 1, by omega⟩ := Fin.ext (congrArg (· + 1) (Nat.mul_comm _ _))
    rw [e0, e1]
    rfl
  refine (h (nR (states m 10) x) 4#32).trans ?_
  rw [nR_at, nR_at]
  have e0 : 32 * (j.val / 16) + 2 * (j.val % 16) = 2 * j.val := by omega
  have e1 : 32 * (j.val / 16) + (2 * (j.val % 16) + 1) = 2 * j.val + 1 := by omega
  show (nib _ _ _ _ (32 * (j.val / 16) + 2 * (j.val % 16)) ||| IntOp.shli .host (nib _ _ _ _ (32 * (j.val / 16) + (2 * (j.val % 16) + 1))) 4#32).setWidth 8 = _
  rw [e0, e1]
  rfl

end

section
variable [Cert.Pre_exact_in_22_bits.Facts]

theorem andi_one {p q : BitVec 1} (h : IntOp.andi p q = 1#1) : p = 1#1 ∧ q = 1#1 := by
  revert p q; decide
theorem ori_one {p q : BitVec 1} (h : IntOp.ori p q = 1#1) : p = 1#1 ∨ q = 1#1 := by
  revert p q; decide
theorem ofBool_one {p : Prop} [Decidable p] (h : BitVec.ofBool (decide p) = 1#1) : p := by
  by_contra hp
  rw [decide_eq_false hp] at h
  exact absurd h (by decide)

/-- The precondition, row by row. -/
theorem ok_of_pre (x : FVec Ideal S4x384x29568 .bf16) (m : IVec S2 32) (h : Cert.Pre_exact_in_22_bits.fn (F := Ideal) x m = fun _ => 1#1) (b : Fin 4) (r : Fin 384) :
    Ok (row x b r) := by
  rw [pre_eq] at h
  have hi : ∀ (g : Fin 924) (n : Fin 32), (top (row x b r) g.val = val 0x00000000#32 ∨ (val 0x01800000#32 ≤ top (row x b r) g.val ∧ top (row x b r) g.val ≤ val 0x7F7FFFFF#32))
      ∧ Exact (rFrac (unit (row x b r) (32 * g.val + n.val))) := by
    intro g n
    have hg : ∀ (A : FVec Ideal S4x384x924 .f32) (P : FVec Ideal S4x384x924x32 .f32) (z l u s : BitVec 32),
        andi (broadcastInDim S4x384x924x32 ![0, 1, 2, 3] bcast_S4x384x924x1_S4x384x924x32_0_1_2_3 (broadcastInDim S4x384x924x1 ![0, 1, 2] bcast_S4x384x924_S4x384x924x1_0_1_2
        (ori (cmpf .oeq A (broadcastInDim S4x384x924 ![] bcast_S_S4x384x924 (constant S_ .f32 z)))
          (andi (cmpf .oge A (broadcastInDim S4x384x924 ![] bcast_S_S4x384x924 (constant S_ .f32 l)))
            (cmpf .ole A (broadcastInDim S4x384x924 ![] bcast_S_S4x384x924 (constant S_ .f32 u)))))))
        (cmpf .oeq (Host.floor (mulf P (broadcastInDim S4x384x924x32 ![] bcast_S_S4x384x924x32 (constant S_ .f32 s))))
          (mulf P (broadcastInDim S4x384x924x32 ![] bcast_S_S4x384x924x32 (constant S_ .f32 s)))) (ix4 b r g n)
        = IntOp.andi (IntOp.ori (Ideal.cmp .oeq (A (ix3 b r g)) (Ideal.ofBits .f32 z)) (IntOp.andi (Ideal.cmp .oge (A (ix3 b r g)) (Ideal.ofBits .f32 l)) (Ideal.cmp .ole (A (ix3 b r g)) (Ideal.ofBits .f32 u))))
          (Ideal.cmp .oeq (Ideal.liftRound Int.floor (P (ix4 b r g n) * Ideal.ofBits .f32 s)) (P (ix4 b r g n) * Ideal.ofBits .f32 s)) := by
      intro A P z l u s
      have hb : ∀ v : IVec S4x384x924 1, broadcastInDim S4x384x924x32 ![0, 1, 2, 3] bcast_S4x384x924x1_S4x384x924x32_0_1_2_3 (broadcastInDim S4x384x924x1 ![0, 1, 2] bcast_S4x384x924_S4x384x924x1_0_1_2 v) (ix4 b r g n) = v (ix3 b r g) := by
        intro v; pointwise
      refine (congrArg (fun t => IntOp.andi t _) (hb _)).trans ?_
      rfl
    have h1 := (hg (amaxR x) (fR x) 0x00000000#32 0x01800000#32 0x7F7FFFFF#32 0x4A800000#32).symm.trans (congrFun h (ix4 b r g n))
    rw [amaxR_at, fR_at, aR_unit] at h1
    obtain ⟨h2, h3⟩ := andi_one h1
    refine ⟨?_, h3⟩
    rcases ori_one h2 with h4 | h4
    · exact Or.inl (ofBool_one h4)
    · exact Or.inr ⟨ofBool_one (andi_one h4).1, ofBool_one (andi_one h4).2⟩
  refine ⟨fun g hg => ?_, fun d hd => ?_⟩
  · have h1 := (hi ⟨g, hg⟩ 0).1
    rw [val_0] at h1
    exact h1
  · have h1 := (hi ⟨d / 32, by omega⟩ ⟨d % 32, by omega⟩).2
    rw [show 32 * (d / 32) + d % 32 = d by omega] at h1
    exact h1
end

end Cert.Proof.Ref

end
-- ==== Proof.Blocks.lean ====
/-
  The blocks of one grid point: which part of each array a window shows, and what the point leaves in its two blocks.
-/
module

public import proofs.«01_k».proof.Proof.Entry
public import proofs.«01_k».proof.Proof.Ref
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe
open Cert.Proof.Quant Cert.Proof.Spec

variable (m : (ℓ : Loc nD τ sig) → Buf (Elt Ideal) ℓ) (c : Dev nD)

theorem coords_eq : ∀ t : Fin cfg0.N, (grid0.coords t 0).val = t.val := by decide +kernel
theorem points_eq : cfg0.N = 12 := by decide +kernel

theorem idx0 : ∀ t : Fin cfg0.N, win0_0.index t = ![0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val / 3, 0, t.val % 3] := by decide +kernel
theorem idx5 : ∀ t : Fin cfg0.N, win0_5.index t = ![t.val / 3, 0, t.val % 3] := by decide +kernel

theorem blk0 (t : Fin cfg0.N) (j : Fin 2) :
    (iblk m c 0 t : S2.Idx → BitVec 32) (ix1 j) = (V m c main_arg1 : S2.Idx → BitVec 32) (ix1 j) := by
  blk_ext [iblk, idx0]

theorem blk1 (t : Fin cfg0.N) (l : Fin 128) (d : Fin 29568) :
    (iblk m c 1 t : S128x29568.Idx → EReal) (ix2 l d)
      = (V m c main_v31 : S1536x29568.Idx → EReal) (ix2 ⟨128 * t.val + l.val, by have := t.isLt; have := points_eq; omega⟩ d) := by
  blk_ext [iblk, idx1]

theorem blk2 (t : Fin cfg0.N) (r q : Fin 256) :
    (iblk m c 2 t : S256x256.Idx → EReal) (ix2 r q) = (V m c main_v32 : S256x256.Idx → EReal) (ix2 r q) := by
  blk_ext [iblk, idx2]

theorem blk3 (t : Fin cfg0.N) (r : Fin 64) (q : Fin 256) :
    (iblk m c 3 t : S64x256.Idx → EReal) (ix2 r q) = (V m c main_v33 : S64x256.Idx → EReal) (ix2 r q) := by
  blk_ext [iblk, idx3]

/-- The row of the input that a point's lane holds. -/
theorem row_eq (t : Fin cfg0.N) (l : Fin 128) :
    rowOf (iblk m c 1 t : S128x29568.Idx → EReal) l
      = Ref.row (m ((c : Thread nD τ).loc main_arg0) : S4x384x29568.Idx → EReal)
          ⟨(128 * t.val + l.val) / 384, by have := t.isLt; have := points_eq; omega⟩ ⟨(128 * t.val + l.val) % 384, by omega⟩ := by
  funext d
  unfold rowOf Ref.row
  by_cases h : d < 29568
  · rw [dif_pos h, dif_pos h, blk1]
    exact rows_entry m c _ _
  · rw [dif_neg h, dif_neg h]

theorem seed_eq (t : Fin cfg0.N) (j : Fin 2) :
    seedWord c (st0_0 t) (in1 m c t) j = (m ((c : Thread nD τ).loc main_arg1) : S2.Idx → BitVec 32) (ix1 j) := by
  unfold seedWord
  rw [Memref.IsWhole.read_unread]
  rw [← V_main_arg1 m c]
  refine Eq.trans ?_ (blk0 m c t j)
  exact congrArg (iblk m c 0 t : S2.Idx → BitVec 32) (funext fun a => by fin_cases a; rfl)

/-- A row number of the whole input splits into its batch and its row there. -/
theorem split_row (T : ℕ) (hT : T < 1536) : 384 * (T / 384) + T % 384 = T := Nat.div_add_mod T 384

attribute [local irreducible] byte Ref.row sScale top

section Point

variable (hok : ∀ b r, Ok (Ref.row (m ((c : Thread nD τ).loc main_arg0) : S4x384x29568.Idx → EReal) b r))
include hok

theorem pointCodes_at (t : Fin cfg0.N) (R : Fin 14784) (l : Fin 128) :
    pointCodes m c t (ix3 0 R l)
      = byte (Ref.row (m ((c : Thread nD τ).loc main_arg0) : S4x384x29568.Idx → EReal)
          ⟨(128 * t.val + l.val) / 384, by have := t.isLt; have := points_eq; omega⟩ ⟨(128 * t.val + l.val) % 384, by omega⟩)
          ((m ((c : Thread nD τ).loc main_arg1) : S2.Idx → BitVec 32) (ix1 0)) ((m ((c : Thread nD τ).loc main_arg1) : S2.Idx → BitVec 32) (ix1 1))
          (128 * t.val + l.val) R.val := by
  have hc := coords_eq t
  have hp := points_eq
  have ht := t.isLt
  unfold pointCodes
  rw [seed_eq, seed_eq, ← row_eq m c t l]
  refine codesAt_at c (grid0.coords t) _ _ _ _ _ _ _ _ _ (iblk m c 1 t) ?_ ?_ ?_ R l ?_ _ ?_ ?_
  · exact Memref.IsWhole.read_unread _ _
  · intro r q
    rw [Memref.IsWhole.read_unread]
    exact (blk2 m c t r q).trans (perm_entry m c r q)
  · intro r q
    rw [Memref.IsWhole.read_unread]
    exact (blk3 m c t r q).trans (sign_entry m c r q)
  · rw [row_eq]; exact hok _ _
  · rw [hc]
  · rw [hc]; omega

omit hok in
theorem pointScales_at (t : Fin cfg0.N) (R : Fin 924) (l : Fin 128) :
    pointScales m c t (ix3 0 R l)
      = sScale (top (Ref.row (m ((c : Thread nD τ).loc main_arg0) : S4x384x29568.Idx → EReal)
          ⟨(128 * t.val + l.val) / 384, by have := t.isLt; have := points_eq; omega⟩ ⟨(128 * t.val + l.val) % 384, by omega⟩) R.val) := by
  unfold pointScales
  rw [← row_eq m c t l]
  refine scalesAt_at c _ _ _ _ _ (iblk m c 1 t) ?_ ?_ R l
  · exact Memref.IsWhole.read_unread _ _
  · intro r q
    rw [Memref.IsWhole.read_unread]
    exact (blk2 m c t r q).trans (perm_entry m c r q)

/-! ## The two arrays the region leaves -/

set_option maxHeartbeats 1000000 in
theorem codes_array :
    ((dats m 0 c).arrAt 4 cfg0.N : S4x14784x384.Idx → BitVec 8)
      = fun y => byte (Ref.row (m ((c : Thread nD τ).loc main_arg0) : S4x384x29568.Idx → EReal) (y 0) (y 2))
          ((m ((c : Thread nD τ).loc main_arg1) : S2.Idx → BitVec 32) (ix1 0)) ((m ((c : Thread nD τ).loc main_arg1) : S2.Idx → BitVec 32) (ix1 1))
          (384 * (y 0).val + (y 2).val) (y 1).val := by
  refine (dats m 0 c).arrAt_eq_of_covers 4 _ (by decide +kernel) fun t hf y => ?_
  have hi := idx4 t
  have i0 : win0_4.index t 0 = t.val / 3 := by rw [hi]; rfl
  have i1 : win0_4.index t 1 = 0 := by rw [hi]; rfl
  have i2 : win0_4.index t 2 = t.val % 3 := by rw [hi]; rfl
  have ht : t.val < 12 := lt_of_lt_of_eq t.isLt points_eq
  obtain ⟨R, hR⟩ : ∃ R : Fin 14784, y 1 = R := ⟨y 1, rfl⟩
  obtain ⟨l, hl⟩ : ∃ l : Fin 128, y 2 = l := ⟨y 2, rfl⟩
  have h0 : (y 0).val = 0 := Nat.lt_one_iff.mp (y 0).isLt
  have hy : y = (ix3 0 R l : S1x14784x128.Idx) := by
    funext a
    fin_cases a
    · exact Fin.ext h0
    · exact hR
    · exact hl
  have hlt := l.isLt
  have hb : (128 * t.val + l.val) / 384 < 4 := by omega
  have hr : (128 * t.val + l.val) % 384 < 384 := by omega
  have e0 : (((cfg0.win 4).blk t).view.emb y 0 : Fin 4) = (⟨(128 * t.val + l.val) / 384, hb⟩ : Fin 4) := Fin.ext (by
    blk_simp
    rw [i0]
    show t.val / 3 = (128 * t.val + l.val) / 384
    omega)
  have e2 : (((cfg0.win 4).blk t).view.emb y 2 : Fin 384) = (⟨(128 * t.val + l.val) % 384, hr⟩ : Fin 384) := Fin.ext (by
    blk_simp
    rw [i2, hl]
    show t.val % 3 * 128 + l.val = (128 * t.val + l.val) % 384
    omega)
  have e1 : ((((cfg0.win 4).blk t).view.emb y 1 : Fin 14784) : ℕ) = R.val := by
    blk_simp
    rw [i1, hR]
    omega
  have eT : 384 * ((128 * t.val + l.val) / 384) + (128 * t.val + l.val) % 384 = 128 * t.val + l.val := Nat.div_add_mod _ 384
  refine Eq.trans (show _ = pointCodes m c t (ix3 0 R l) from congrArg (pointCodes m c t) hy) ((pointCodes_at m c hok t R l).trans ?_)
  show _ = byte (Ref.row (m ((c : Thread nD τ).loc main_arg0) : S4x384x29568.Idx → EReal) (((cfg0.win 4).blk t).view.emb y 0 : Fin 4) (((cfg0.win 4).blk t).view.emb y 2 : Fin 384))
          ((m ((c : Thread nD τ).loc main_arg1) : S2.Idx → BitVec 32) (ix1 0)) ((m ((c : Thread nD τ).loc main_arg1) : S2.Idx → BitVec 32) (ix1 1))
          (384 * ((((cfg0.win 4).blk t).view.emb y 0 : Fin 4) : ℕ) + ((((cfg0.win 4).blk t).view.emb y 2 : Fin 384) : ℕ)) ((((cfg0.win 4).blk t).view.emb y 1 : Fin 14784) : ℕ)
  rw [e0, e1, e2, eT]

end Point

theorem after_5 (t : Fin cfg0.N) : (dats m 0 c).after 5 t = pointScales m c t := by dsimp only [dats]

theorem scales_array :
    ((dats m 0 c).arrAt 5 cfg0.N : S4x924x384.Idx → BitVec 32)
      = fun y => sScale (top (Ref.row (m ((c : Thread nD τ).loc main_arg0) : S4x384x29568.Idx → EReal) (y 0) (y 2)) (y 1).val) := by
  refine (dats m 0 c).arrAt_eq_of_covers 5 _ (by decide +kernel) fun t hf y => ?_
  have hi := idx5 t
  have i0 : win0_5.index t 0 = t.val / 3 := by rw [hi]; rfl
  have i1 : win0_5.index t 1 = 0 := by rw [hi]; rfl
  have i2 : win0_5.index t 2 = t.val % 3 := by rw [hi]; rfl
  have ht : t.val < 12 := lt_of_lt_of_eq t.isLt points_eq
  obtain ⟨R, hR⟩ : ∃ R : Fin 924, y 1 = R := ⟨y 1, rfl⟩
  obtain ⟨l, hl⟩ : ∃ l : Fin 128, y 2 = l := ⟨y 2, rfl⟩
  have h0 : (y 0).val = 0 := Nat.lt_one_iff.mp (y 0).isLt
  have hy : y = (ix3 0 R l : S1x924x128.Idx) := by
    funext a
    fin_cases a
    · exact Fin.ext h0
    · exact hR
    · exact hl
  have hlt := l.isLt
  have hb : (128 * t.val + l.val) / 384 < 4 := by omega
  have hr : (128 * t.val + l.val) % 384 < 384 := by omega
  have e0 : (((cfg0.win 5).blk t).view.emb y 0 : Fin 4) = (⟨(128 * t.val + l.val) / 384, hb⟩ : Fin 4) := Fin.ext (by
    blk_simp
    rw [i0]
    show t.val / 3 = (128 * t.val + l.val) / 384
    omega)
  have e2 : (((cfg0.win 5).blk t).view.emb y 2 : Fin 384) = (⟨(128 * t.val + l.val) % 384, hr⟩ : Fin 384) := Fin.ext (by
    blk_simp
    rw [i2, hl]
    show t.val % 3 * 128 + l.val = (128 * t.val + l.val) % 384
    omega)
  have e1 : ((((cfg0.win 5).blk t).view.emb y 1 : Fin 924) : ℕ) = R.val := by
    blk_simp
    rw [i1, hR]
    omega
  have eT : 384 * ((128 * t.val + l.val) / 384) + (128 * t.val + l.val) % 384 = 128 * t.val + l.val := Nat.div_add_mod _ 384
  have k1 : (dats m 0 c).after 5 t y = pointScales m c t (ix3 0 R l) := by
    rw [after_5 m c t]
    exact congrArg (pointScales m c t) hy
  refine k1.trans ((pointScales_at m c t R l).trans ?_)
  generalize hx : (m ((c : Thread nD τ).loc main_arg0) : S4x384x29568.Idx → EReal) = x
  refine Eq.trans ?_ (show sScale (top (Ref.row x (((cfg0.win 5).blk t).view.emb y 0 : Fin 4) (((cfg0.win 5).blk t).view.emb y 2 : Fin 384)) ((((cfg0.win 5).blk t).view.emb y 1 : Fin 924) : ℕ)) = _ from ?_)
  · rw [e0, e1, e2]
  · subst hx; rfl

end Cert.Proof.KI

end
-- ==== Proof.Value.lean ====
/-
  The kernel's results after its region, and the two programs' results beside each other.
-/
module

public import proofs.«01_k».proof.Proof.Blocks
public import proofs.«01_k».proof.Proof.Gen.ReferenceIdeal.StepRun

@[expose] public section

set_option maxRecDepth 16384

noncomputable section

/-- The side conditions of the precondition's text: the reference states the same ones. -/
instance Cert.Proof.preFacts : Cert.Pre_exact_in_22_bits.Facts where
  bitsLt_bf16_f32 := Cert.ReferenceIdeal.Gen.bitsLt_bf16_f32
  shapeCasts_S4x384x29568_S4x384x924x32 := Cert.ReferenceIdeal.Gen.shapeCasts_S4x384x29568_S4x384x924x32
  reducesTo_S4x384x924x32_S4x384x924_d3 := Cert.ReferenceIdeal.Gen.reducesTo_S4x384x924x32_S4x384x924_d3
  h_S_ := Cert.ReferenceIdeal.Gen.h_S_
  bcast_S_S4x384x924 := Cert.ReferenceIdeal.Gen.bcast_S_S4x384x924
  bcast_S_S254 := Cert.ReferenceIdeal.Gen.bcast_S_S254
  bcast_S4x384x924_S4x384x924x1_0_1_2 := Cert.ReferenceIdeal.Gen.bcast_S4x384x924_S4x384x924x1_0_1_2
  bcast_S254_S1x1x1x254_3 := Cert.ReferenceIdeal.Gen.bcast_S254_S1x1x1x254_3
  bcast_S1x1x1x254_S4x384x924x254_0_1_2_3 := Cert.ReferenceIdeal.Gen.bcast_S1x1x1x254_S4x384x924x254_0_1_2_3
  bcast_S4x384x924x1_S4x384x924x254_0_1_2_3 := Cert.ReferenceIdeal.Gen.bcast_S4x384x924x1_S4x384x924x254_0_1_2_3
  bcast_S254_S4x384x924x254_3 := Cert.ReferenceIdeal.Gen.bcast_S254_S4x384x924x254_3
  bcast_S_S4x384x924x254 := Cert.ReferenceIdeal.Gen.bcast_S_S4x384x924x254
  reducesTo_S4x384x924x254_S4x384x924_d3 := Cert.ReferenceIdeal.Gen.reducesTo_S4x384x924x254_S4x384x924_d3
  bcast_S_S4x384x924x32 := Cert.ReferenceIdeal.Gen.bcast_S_S4x384x924x32
  bcast_S4x384x924x1_S4x384x924x32_0_1_2_3 := Cert.ReferenceIdeal.Gen.bcast_S4x384x924x1_S4x384x924x32_0_1_2_3

namespace Cert.Proof.KI

open Cert.KernelIdeal Cert.KernelIdeal.Gen
open Idealize.ShloMosaic Idealize.ShloMosaic.TcCoe
open Cert.Proof.Quant Cert.Proof.Spec

variable (m : (ℓ : Loc nD τ sig) → Buf (Elt Ideal) ℓ) (c : Dev nD)

theorem arr_inj : Function.Injective (Pipeline.arrRef spec0) := by decide

/-- The codes after the region: the region's codes with their two last axes swapped. -/
theorem tail_codes (b : Fin 4) (r : Fin 384) (j : Fin 14784) :
    (Pipeline.afterTail₀ cfgs (dats m) 0 (V0 m) [hostOps1] c main_v35 : S4x384x14784.Idx → BitVec 8) (ix3 b r j)
      = ((dats m 0 c).arrAt 4 cfg0.N : S4x14784x384.Idx → BitVec 8) (ix3 b j r) := by
  unfold Pipeline.afterTail₀
  simp only [hostOps1, List.flatten_cons, List.flatten_nil, List.append_nil, List.cons_append, List.nil_append]
  have h := Pipeline.withArrays_arr (cfgs 0).spec arr_inj c (V0 m c) (fun w => (dats m 0 c).arrAt w (cfgs 0).N) 4
  generalize Pipeline.withArrays (cfgs 0).spec c (V0 m c) (fun w => (dats m 0 c).arrAt w (cfgs 0).N) = A at h ⊢
  after_reads_at
  exact congrFun h (ix3 b j r)

/-- The scales after the region, each shortened to its byte. -/
theorem tail_scales (b : Fin 4) (r : Fin 384) (g : Fin 924) :
    (Pipeline.afterTail₀ cfgs (dats m) 0 (V0 m) [hostOps1] c main_v37 : S4x384x924.Idx → BitVec 8) (ix3 b r g)
      = (((dats m 0 c).arrAt 5 cfg0.N : S4x924x384.Idx → BitVec 32) (ix3 b g r)).setWidth 8 := by
  unfold Pipeline.afterTail₀
  simp only [hostOps1, List.flatten_cons, List.flatten_nil, List.append_nil, List.cons_append, List.nil_append]
  have h := Pipeline.withArrays_arr (cfgs 0).spec arr_inj c (V0 m c) (fun w => (dats m 0 c).arrAt w (cfgs 0).N) 5
  generalize Pipeline.withArrays (cfgs 0).spec c (V0 m c) (fun w => (dats m 0 c).arrAt w (cfgs 0).N) = A at h ⊢
  after_reads_at
  exact congrArg (BitVec.setWidth 8) (congrFun h (ix3 b g r))

section Results

variable [Cert.Pre_exact_in_22_bits.Facts]
  (hpre : Cert.Pre_exact_in_22_bits.fn (F := Ideal) (m ((c : Thread nD τ).loc main_arg0)) (m ((c : Thread nD τ).loc main_arg1)) = fun _ => 1#1)
include hpre

/-- The kernel's codes are the reference's. -/
theorem results_codes :
    (Pipeline.afterTail₀ cfgs (dats m) 0 (V0 m) [hostOps1] c main_v35 : S4x384x14784.Idx → BitVec 8)
      = Cert.ReferenceIdeal.Step.R_main_v111 (Ref.states (m ((c : Thread nD τ).loc main_arg1)) 10) (m ((c : Thread nD τ).loc main_arg0)) := by
  funext i
  obtain ⟨b, r, j, rfl⟩ : ∃ (b : Fin 4) (r : Fin 384) (j : Fin 14784), i = ix3 b r j := ⟨i 0, i 1, i 2, eq_ix3 i⟩
  rw [tail_codes, codes_array m c fun b r => Ref.ok_of_pre _ _ hpre b r, Ref.bytes_eq, Ref.bytes_at]
  rfl

/-- The kernel's scales are the reference's. -/
theorem results_scales :
    (Pipeline.afterTail₀ cfgs (dats m) 0 (V0 m) [hostOps1] c main_v37 : S4x384x924.Idx → BitVec 8)
      = Cert.ReferenceIdeal.Step.R_main_v53 (Ref.states (m ((c : Thread nD τ).loc main_arg1)) 10) (m ((c : Thread nD τ).loc main_arg0)) := by
  funext i
  obtain ⟨b, r, g, rfl⟩ : ∃ (b : Fin 4) (r : Fin 384) (g : Fin 924), i = ix3 b r g := ⟨i 0, i 1, i 2, eq_ix3 i⟩
  rw [tail_scales, scales_array m c, Ref.scales_eq, Ref.scale_at]
  exact (Ref.ok_of_pre _ _ hpre b r).scale g.val g.isLt

end Results

end Cert.Proof.KI

end
-- ==== Proof.lean ====
/-
  The proof of this directory's certificate.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.StepRun
public import proofs.«01_k».proof.Proof.Body
public import proofs.«01_k».proof.Proof.BodyI
public import proofs.«01_k».proof.Proof.Value
public import Idealize.ShloMosaic.Adequacy
public import Idealize.ShloMosaic.Init
public import Idealize.ShloMosaic.Lib.Quiescent

@[expose] public section

noncomputable section

open Idealize.ShloMosaic Idealize.ShloMosaic.TcCoe Idealize.SL.Sem

namespace Cert.Proof

section K
open Cert.Kernel

/-- Every run of the kernel ends with both arguments as they were and no counter raised. -/
theorem frame_p : Cert.quiescent_Kernel := fun m ρ _ =>
  (θ_run defs _ _).mono (fun r h => ⟨fun c =>
      ⟨((h.1 c).2 main_arg0 (Pipeline.mem_restRefs_of main_arg0 (by decide) (by decide))).trans (Gen.W_main_arg0 m (K.dats m) c),
       ((h.1 c).1 0).trans (((K.dats m 0 c).arrAt_in 0 rfl _).trans ((K.A_eq m c 0).trans (Gen.V_main_arg1 m c)))⟩, h.2⟩)
    (K.run_quiescent m ρ)

end K

section KI
open Cert.KernelIdeal

/-- The same of the idealized kernel. -/
theorem frame_pi : Cert.quiescent_KernelIdeal := fun m ρ _ =>
  (θ_run defs _ _).mono (fun r h => ⟨fun c =>
      ⟨((h.1 c).2 main_arg0 (Pipeline.mem_restRefs_of main_arg0 (by decide) (by decide))).trans (Gen.W_main_arg0 m (KI.dats m) c),
       ((h.1 c).1 0).trans (((KI.dats m 0 c).arrAt_in 0 rfl _).trans ((KI.A_eq m c 0).trans (Gen.V_main_arg1 m c)))⟩, h.2⟩)
    (KI.run_quiescent m ρ)

end KI

/-- The reference leaves its arguments as they were; it declares no semaphore. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

section Algebraic
open Cert.KernelIdeal

/-- On inputs whose fractions fit the bits the kernel draws, the kernel and the reference end with equal codes and equal scales. -/
theorem algebraic : Cert.algebraic_KernelIdeal_ReferenceIdeal_pre_exact_in_22_bits := fun m ρ m' ρ' hpre hargs => by
  refine ⟨fun c => Cert.ReferenceIdeal.Step.R_main_v111 (Ref.states (m ((c : Thread nD τ).loc main_arg1)) 10) (m ((c : Thread nD τ).loc main_arg0)),
    fun c => Cert.ReferenceIdeal.Step.R_main_v53 (Ref.states (m ((c : Thread nD τ).loc main_arg1)) 10) (m ((c : Thread nD τ).loc main_arg0)), ?_, ?_⟩
  · exact (θ_run defs _ _).mono (fun r h c =>
      ⟨((h.1 c).2 main_v35 (Pipeline.mem_restRefs_of main_v35 (by decide) (by decide))).trans (KI.results_codes m c (hpre c)),
       ((h.1 c).2 main_v37 (Pipeline.mem_restRefs_of main_v37 (by decide) (by decide))).trans (KI.results_scales m c (hpre c)),
       ((h.1 c).2 main_arg0 (Pipeline.mem_restRefs_of main_arg0 (by decide) (by decide))).trans (Gen.W_main_arg0 m (KI.dats m) c),
       ((h.1 c).1 0).trans (((KI.dats m 0 c).arrAt_in 0 rfl _).trans ((KI.A_eq m c 0).trans (Gen.V_main_arg1 m c)))⟩)
      (KI.run_quiescent m ρ)
  · have hrun := Cert.ReferenceIdeal.StepRun.run_iter (F := Ideal) m' ρ'
      (fun c => Ref.states (m' ((c.tc : Thread Cert.ReferenceIdeal.nD Cert.ReferenceIdeal.τ).loc Cert.ReferenceIdeal.main_arg1))) (fun _ => rfl) (fun _ _ => rfl)
    refine (θ_run Cert.ReferenceIdeal.defs _ _).mono (fun r h c => ?_) hrun
    obtain ⟨h0, h1, h2⟩ := h c
    rw [(hargs c).1, (hargs c).2] at h0 h1
    exact ⟨h0, h1, h2⟩

end Algebraic

theorem claim : Cert.Claim :=
  ⟨Cert.Kernel.Gen.facts, Cert.KernelIdeal.Gen.facts, Cert.ReferenceIdeal.Gen.facts, Cert.Proof.preFacts, frame_p, frame_pi,
    fun m ρ _ => frame_pi m ρ trivial, frame_ri, fun m ρ _ => frame_ri m ρ trivial, trivial, algebraic⟩

end Cert.Proof

end
